-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S128x4096 : Shape := ⟨2, ![128, 4096]⟩
abbrev S8 : Shape := ⟨1, ![8]⟩
abbrev S_ : Shape := ⟨0, ![]⟩
abbrev S4 : Shape := ⟨1, ![4]⟩
abbrev S1 : Shape := ⟨1, ![1]⟩
abbrev S1x128x4096 : Shape := ⟨3, ![1, 128, 4096]⟩
abbrev S128 : Shape := ⟨1, ![128]⟩
abbrev S128x1 : Shape := ⟨2, ![128, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v23 : BitVec 32 := Scalar.muli v2 c2_i32_14
  let v24 : BitVec 32 := Scalar.addi c0_i32 v23
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v25 : BitVec 32 := Scalar.muli v6 c1_i32_15
  let v26 : BitVec 32 := Scalar.addi v24 v25
  v26.toNat
def k0_dev2 (d0 : Dev nD) : Nat :=
  let c0_i32_18 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_17 : BitVec 32 := 2#32
  let v27 : BitVec 32 := Scalar.muli v7 c2_i32_17
  let v28 : BitVec 32 := Scalar.addi c0_i32_18 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v29 : BitVec 32 := Scalar.muli v5 c1_i32_19
  let v30 : BitVec 32 := Scalar.addi v28 v29
  v30.toNat
def k0_off1 (d0 : Dev nD) (c0_i32_21 : BitVec 32) : Fin 2 → Nat :=
  let c2_i32_5 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_5 v2
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_6 v5
  let v12 : BitVec 32 := Scalar.addi v10 v11
  let c1024_i32_12 : BitVec 32 := 1024#32
  let v21 : BitVec 32 := Scalar.muli v12 c1024_i32_12
  let v31 : BitVec 32 := Scalar.addi v21 c0_i32_21
  let c0_i32_28 : BitVec 32 := 0#32
  ![v31.toNat, 0]
def k0_off2 (d0 : Dev nD) (c0_i32_21 : BitVec 32) : Fin 3 → Nat :=
  let c0_i32_22 : BitVec 32 := 0#32
  let c2_i32_5 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_5 v2
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_6 v5
  let v12 : BitVec 32 := Scalar.addi v10 v11
  let c1024_i32_12 : BitVec 32 := 1024#32
  let v21 : BitVec 32 := Scalar.muli v12 c1024_i32_12
  let v31 : BitVec 32 := Scalar.addi v21 c0_i32_21
  let c0_i32_29 : BitVec 32 := 0#32
  ![0, v31.toNat, 0]
def k0_dev3 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v32 : BitVec 32 := Scalar.muli v2 c2_i32_25
  let v33 : BitVec 32 := Scalar.addi c0_i32_26 v32
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v34 : BitVec 32 := Scalar.muli v6 c1_i32_27
  let v35 : BitVec 32 := Scalar.addi v33 v34
  v35.toNat
def k0_dev4 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v44 : BitVec 32 := Scalar.muli v2 c2_i32_33
  let v45 : BitVec 32 := Scalar.addi c0_i32_34 v44
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v46 : BitVec 32 := Scalar.muli v6 c1_i32_35
  let v47 : BitVec 32 := Scalar.addi v45 v46
  v47.toNat
def k0_dev5 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v56 : BitVec 32 := Scalar.muli v2 c2_i32_41
  let v57 : BitVec 32 := Scalar.addi c0_i32_42 v56
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_43 : BitVec 32 := 1#32
  let v58 : BitVec 32 := Scalar.muli v6 c1_i32_43
  let v59 : BitVec 32 := Scalar.addi v57 v58
  v59.toNat
def k0_dev6 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v68 : BitVec 32 := Scalar.muli v2 c2_i32_48
  let v69 : BitVec 32 := Scalar.addi c0_i32_49 v68
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_50 : BitVec 32 := 1#32
  let v70 : BitVec 32 := Scalar.muli v6 c1_i32_50
  let v71 : BitVec 32 := Scalar.addi v69 v70
  v71.toNat
def k0_dev7 (d0 : Dev nD) : Nat :=
  let c0_i32_56 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_55 : BitVec 32 := 2#32
  let v80 : BitVec 32 := Scalar.muli v2 c2_i32_55
  let v81 : BitVec 32 := Scalar.addi c0_i32_56 v80
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_57 : BitVec 32 := 1#32
  let v82 : BitVec 32 := Scalar.muli v6 c1_i32_57
  let v83 : BitVec 32 := Scalar.addi v81 v82
  v83.toNat
def k0_dev8 (d0 : Dev nD) : Nat :=
  let c0_i32_63 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_62 : BitVec 32 := 2#32
  let v92 : BitVec 32 := Scalar.muli v2 c2_i32_62
  let v93 : BitVec 32 := Scalar.addi c0_i32_63 v92
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_64 : BitVec 32 := 1#32
  let v94 : BitVec 32 := Scalar.muli v6 c1_i32_64
  let v95 : BitVec 32 := Scalar.addi v93 v94
  v95.toNat
def k0_dev9 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v104 : BitVec 32 := Scalar.muli v2 c2_i32_69
  let v105 : BitVec 32 := Scalar.addi c0_i32_70 v104
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v106 : BitVec 32 := Scalar.muli v6 c1_i32_71
  let v107 : BitVec 32 := Scalar.addi v105 v106
  v107.toNat
def k0_dev10 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v116 : BitVec 32 := Scalar.muli v2 c2_i32_76
  let v117 : BitVec 32 := Scalar.addi c0_i32_77 v116
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v118 : BitVec 32 := Scalar.muli v6 c1_i32_78
  let v119 : BitVec 32 := Scalar.addi v117 v118
  v119.toNat
def k0_off3 (d0 : Dev nD) (c0_i32_81 : BitVec 32) : Fin 3 → Nat :=
  let c0_i32_82 : BitVec 32 := 0#32
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.addi v8 v5
  let c1024_i32 : BitVec 32 := 1024#32
  let v20 : BitVec 32 := Scalar.muli v9 c1024_i32
  let v127 : BitVec 32 := Scalar.addi v20 c0_i32_81
  let c0_i32_84 : BitVec 32 := 0#32
  ![0, v127.toNat, 0]
def k0_off4 (d0 : Dev nD) (c0_i32_81 : BitVec 32) : Fin 2 → Nat :=
  let c2_i32_4 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.muli c2_i32_4 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.addi v8 v5
  let c1024_i32 : BitVec 32 := 1024#32
  let v20 : BitVec 32 := Scalar.muli v9 c1024_i32
  let v127 : BitVec 32 := Scalar.addi v20 c0_i32_81
  let c0_i32_86 : BitVec 32 := 0#32
  ![v127.toNat, 0]
def k0_dev11 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v186 : BitVec 32 := Scalar.muli v2 c2_i32_120
  let v187 : BitVec 32 := Scalar.addi c0_i32_121 v186
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_122 : BitVec 32 := 1#32
  let v188 : BitVec 32 := Scalar.muli v6 c1_i32_122
  let v189 : BitVec 32 := Scalar.addi v187 v188
  v189.toNat
def k0_dev12 (d0 : Dev nD) : Nat :=
  let c0_i32_128 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_127 : BitVec 32 := 2#32
  let v196 : BitVec 32 := Scalar.muli v7 c2_i32_127
  let v197 : BitVec 32 := Scalar.addi c0_i32_128 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v198 : BitVec 32 := Scalar.muli v5 c1_i32_129
  let v199 : BitVec 32 := Scalar.addi v197 v198
  v199.toNat
def k0_dev13 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v265 : BitVec 32 := Scalar.muli v2 c2_i32_173
  let v266 : BitVec 32 := Scalar.addi c0_i32_174 v265
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_175 : BitVec 32 := 1#32
  let v267 : BitVec 32 := Scalar.muli v6 c1_i32_175
  let v268 : BitVec 32 := Scalar.addi v266 v267
  v268.toNat
def k0_dev14 (d0 : Dev nD) : Nat :=
  let c0_i32_181 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_180 : BitVec 32 := 2#32
  let v275 : BitVec 32 := Scalar.muli v7 c2_i32_180
  let v276 : BitVec 32 := Scalar.addi c0_i32_181 v275
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v277 : BitVec 32 := Scalar.muli v5 c1_i32_182
  let v278 : BitVec 32 := Scalar.addi v276 v277
  v278.toNat
def k0_dev15 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v344 : BitVec 32 := Scalar.muli v2 c2_i32_226
  let v345 : BitVec 32 := Scalar.addi c0_i32_227 v344
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_228 : BitVec 32 := 1#32
  let v346 : BitVec 32 := Scalar.muli v6 c1_i32_228
  let v347 : BitVec 32 := Scalar.addi v345 v346
  v347.toNat
def k0_dev16 (d0 : Dev nD) : Nat :=
  let c0_i32_234 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_233 : BitVec 32 := 2#32
  let v354 : BitVec 32 := Scalar.muli v7 c2_i32_233
  let v355 : BitVec 32 := Scalar.addi c0_i32_234 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v356 : BitVec 32 := Scalar.muli v5 c1_i32_235
  let v357 : BitVec 32 := Scalar.addi v355 v356
  v357.toNat
def k0_dev17 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v423 : BitVec 32 := Scalar.muli v2 c2_i32_279
  let v424 : BitVec 32 := Scalar.addi c0_i32_280 v423
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_281 : BitVec 32 := 1#32
  let v425 : BitVec 32 := Scalar.muli v6 c1_i32_281
  let v426 : BitVec 32 := Scalar.addi v424 v425
  v426.toNat
def k0_dev18 (d0 : Dev nD) : Nat :=
  let c0_i32_287 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_286 : BitVec 32 := 2#32
  let v433 : BitVec 32 := Scalar.muli v7 c2_i32_286
  let v434 : BitVec 32 := Scalar.addi c0_i32_287 v433
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_288 : BitVec 32 := 1#32
  let v435 : BitVec 32 := Scalar.muli v5 c1_i32_288
  let v436 : BitVec 32 := Scalar.addi v434 v435
  v436.toNat
def k0_dev19 (d0 : Dev nD) : Nat :=
  let c0_i32_333 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_332 : BitVec 32 := 2#32
  let v502 : BitVec 32 := Scalar.muli v2 c2_i32_332
  let v503 : BitVec 32 := Scalar.addi c0_i32_333 v502
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_334 : BitVec 32 := 1#32
  let v504 : BitVec 32 := Scalar.muli v6 c1_i32_334
  let v505 : BitVec 32 := Scalar.addi v503 v504
  v505.toNat
def k0_dev20 (d0 : Dev nD) : Nat :=
  let c0_i32_340 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_339 : BitVec 32 := 2#32
  let v512 : BitVec 32 := Scalar.muli v7 c2_i32_339
  let v513 : BitVec 32 := Scalar.addi c0_i32_340 v512
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_341 : BitVec 32 := 1#32
  let v514 : BitVec 32 := Scalar.muli v5 c1_i32_341
  let v515 : BitVec 32 := Scalar.addi v513 v514
  v515.toNat
def k0_dev21 (d0 : Dev nD) : Nat :=
  let c0_i32_386 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_385 : BitVec 32 := 2#32
  let v581 : BitVec 32 := Scalar.muli v2 c2_i32_385
  let v582 : BitVec 32 := Scalar.addi c0_i32_386 v581
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_387 : BitVec 32 := 1#32
  let v583 : BitVec 32 := Scalar.muli v6 c1_i32_387
  let v584 : BitVec 32 := Scalar.addi v582 v583
  v584.toNat
def k0_dev22 (d0 : Dev nD) : Nat :=
  let c0_i32_393 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_392 : BitVec 32 := 2#32
  let v591 : BitVec 32 := Scalar.muli v7 c2_i32_392
  let v592 : BitVec 32 := Scalar.addi c0_i32_393 v591
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v593 : BitVec 32 := Scalar.muli v5 c1_i32_394
  let v594 : BitVec 32 := Scalar.addi v592 v593
  v594.toNat
def k0_dev23 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v660 : BitVec 32 := Scalar.muli v2 c2_i32_438
  let v661 : BitVec 32 := Scalar.addi c0_i32_439 v660
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_440 : BitVec 32 := 1#32
  let v662 : BitVec 32 := Scalar.muli v6 c1_i32_440
  let v663 : BitVec 32 := Scalar.addi v661 v662
  v663.toNat
def k0_dev24 (d0 : Dev nD) : Nat :=
  let c0_i32_446 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_445 : BitVec 32 := 2#32
  let v670 : BitVec 32 := Scalar.muli v7 c2_i32_445
  let v671 : BitVec 32 := Scalar.addi c0_i32_446 v670
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_447 : BitVec 32 := 1#32
  let v672 : BitVec 32 := Scalar.muli v5 c1_i32_447
  let v673 : BitVec 32 := Scalar.addi v671 v672
  v673.toNat
def k0_dev25 (d0 : Dev nD) : Nat :=
  let c0_i32_492 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_491 : BitVec 32 := 2#32
  let v739 : BitVec 32 := Scalar.muli v2 c2_i32_491
  let v740 : BitVec 32 := Scalar.addi c0_i32_492 v739
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_493 : BitVec 32 := 1#32
  let v741 : BitVec 32 := Scalar.muli v6 c1_i32_493
  let v742 : BitVec 32 := Scalar.addi v740 v741
  v742.toNat
def k0_dev26 (d0 : Dev nD) : Nat :=
  let c0_i32_499 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_498 : BitVec 32 := 2#32
  let v749 : BitVec 32 := Scalar.muli v7 c2_i32_498
  let v750 : BitVec 32 := Scalar.addi c0_i32_499 v749
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_500 : BitVec 32 := 1#32
  let v751 : BitVec 32 := Scalar.muli v5 c1_i32_500
  let v752 : BitVec 32 := Scalar.addi v750 v751
  v752.toNat
def k0_dev27 (d0 : Dev nD) : Nat :=
  let c0_i32_514 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_513 : BitVec 32 := 2#32
  let v768 : BitVec 32 := Scalar.muli v7 c2_i32_513
  let v769 : BitVec 32 := Scalar.addi c0_i32_514 v768
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_515 : BitVec 32 := 1#32
  let v770 : BitVec 32 := Scalar.muli v5 c1_i32_515
  let v771 : BitVec 32 := Scalar.addi v769 v770
  v771.toNat
def k0_dev28 (d0 : Dev nD) : Nat :=
  let c0_i32_529 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_528 : BitVec 32 := 2#32
  let v787 : BitVec 32 := Scalar.muli v7 c2_i32_528
  let v788 : BitVec 32 := Scalar.addi c0_i32_529 v787
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_530 : BitVec 32 := 1#32
  let v789 : BitVec 32 := Scalar.muli v5 c1_i32_530
  let v790 : BitVec 32 := Scalar.addi v788 v789
  v790.toNat
def k0_dev29 (d0 : Dev nD) : Nat :=
  let c0_i32_544 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_543 : BitVec 32 := 2#32
  let v806 : BitVec 32 := Scalar.muli v7 c2_i32_543
  let v807 : BitVec 32 := Scalar.addi c0_i32_544 v806
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_545 : BitVec 32 := 1#32
  let v808 : BitVec 32 := Scalar.muli v5 c1_i32_545
  let v809 : BitVec 32 := Scalar.addi v807 v808
  v809.toNat
def k0_dev30 (d0 : Dev nD) : Nat :=
  let c0_i32_559 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_558 : BitVec 32 := 2#32
  let v825 : BitVec 32 := Scalar.muli v7 c2_i32_558
  let v826 : BitVec 32 := Scalar.addi c0_i32_559 v825
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_560 : BitVec 32 := 1#32
  let v827 : BitVec 32 := Scalar.muli v5 c1_i32_560
  let v828 : BitVec 32 := Scalar.addi v826 v827
  v828.toNat
def k0_dev31 (d0 : Dev nD) : Nat :=
  let c0_i32_574 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_573 : BitVec 32 := 2#32
  let v844 : BitVec 32 := Scalar.muli v7 c2_i32_573
  let v845 : BitVec 32 := Scalar.addi c0_i32_574 v844
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_575 : BitVec 32 := 1#32
  let v846 : BitVec 32 := Scalar.muli v5 c1_i32_575
  let v847 : BitVec 32 := Scalar.addi v845 v846
  v847.toNat
def k0_dev32 (d0 : Dev nD) : Nat :=
  let c0_i32_589 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_588 : BitVec 32 := 2#32
  let v863 : BitVec 32 := Scalar.muli v7 c2_i32_588
  let v864 : BitVec 32 := Scalar.addi c0_i32_589 v863
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_590 : BitVec 32 := 1#32
  let v865 : BitVec 32 := Scalar.muli v5 c1_i32_590
  let v866 : BitVec 32 := Scalar.addi v864 v865
  v866.toNat
def k0_dev33 (d0 : Dev nD) : Nat :=
  let c0_i32_604 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_603 : BitVec 32 := 2#32
  let v882 : BitVec 32 := Scalar.muli v7 c2_i32_603
  let v883 : BitVec 32 := Scalar.addi c0_i32_604 v882
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_605 : BitVec 32 := 1#32
  let v884 : BitVec 32 := Scalar.muli v5 c1_i32_605
  let v885 : BitVec 32 := Scalar.addi v883 v884
  v885.toNat
def k0_off5 (d0 : Dev nD) (c0_i32_617 : BitVec 32) : Fin 2 → Nat :=
  let c2_i32_8 : BitVec 32 := 2#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v13 : BitVec 32 := Scalar.subi c1_i32_7 v2
  let v14 : BitVec 32 := Scalar.muli c2_i32_8 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v15 : BitVec 32 := Scalar.addi v14 v5
  let c1024_i32_616 : BitVec 32 := 1024#32
  let v901 : BitVec 32 := Scalar.muli v15 c1024_i32_616
  let v902 : BitVec 32 := Scalar.addi v901 c0_i32_617
  let c0_i32_623 : BitVec 32 := 0#32
  ![v902.toNat, 0]
def k0_dev34 (d0 : Dev nD) : Nat :=
  let c0_i32_691 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_690 : BitVec 32 := 2#32
  let v983 : BitVec 32 := Scalar.muli v2 c2_i32_690
  let v984 : BitVec 32 := Scalar.addi c0_i32_691 v983
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_692 : BitVec 32 := 1#32
  let v985 : BitVec 32 := Scalar.muli v6 c1_i32_692
  let v986 : BitVec 32 := Scalar.addi v984 v985
  v986.toNat
def k0_off6 (d0 : Dev nD) (c0_i32_696 : BitVec 32) : Fin 2 → Nat :=
  let c2_i32_10 : BitVec 32 := 2#32
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v16 : BitVec 32 := Scalar.subi c1_i32_9 v2
  let v17 : BitVec 32 := Scalar.muli c2_i32_10 v16
  let c1_i32_11 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_11 v5
  let v19 : BitVec 32 := Scalar.addi v17 v18
  let c1024_i32_695 : BitVec 32 := 1024#32
  let v989 : BitVec 32 := Scalar.muli v19 c1024_i32_695
  let v990 : BitVec 32 := Scalar.addi v989 c0_i32_696
  let c0_i32_702 : BitVec 32 := 0#32
  ![v990.toNat, 0]
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.ProgramIdeal.lean ====
/-
# The kernel's body as a short structured program

The printed body is a straight line of some three hundred transfers, waits, loads and stores. This file names its few
kinds of statement once, each for an arbitrary chunk number, and states that the body is their sequence.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Tactic

@[expose] public section

noncomputable section

namespace Cert.KernelIdealRun

open Cert.KernelIdeal Cert.KernelIdeal.Gen
open Idealize.ShloMosaic Idealize.ShloMosaic.TcCoe Idealize.SL.Sem

variable {F : FTy → Type} [FloatOps F]

/-- A piece of the body: effects only, no result. -/
abbrev Piece (F : FTy → Type) [FloatOps F] : Type 1 := Prog (TpuEff nD τ sig (Elt F) Λ₀ .tc) PUnit

/-! ## Semaphores -/

/-- Remote semaphore number `j`: eight arrays of eight (the two ends of the partial-sum exchange, of the finished
    chunk to the `y` neighbour, of the finished chunk to the `x` neighbour, and of the relayed chunk), then the two ends
    of the last relayed chunk. -/
abbrev sm (j : Fin 66) : DmaSem sig := ⟨j.val + 1, by have := j.isLt; show j.val + 1 < 71; omega⟩
/-- Entry `k` of remote array `f`. -/
abbrev at8 (f k : Fin 8) : Fin 66 := ⟨8 * f.val + k.val, by have := f.isLt; have := k.isLt; omega⟩
/-- The sending and the receiving semaphore of the last relayed chunk. -/
abbrev jCs : Fin 66 := 64
abbrev jCr : Fin 66 := 65
/-- The four semaphores of the device's own copies. -/
abbrev cs (i : Fin 4) : DmaSem sig := ⟨i.val + 67, by have := i.isLt; show i.val + 67 < 71; omega⟩
/-- The runtime's barrier semaphore. -/
abbrev barS : Sem sig := (SemArray.scalar (sig.barrier 0 rfl) : Sems sig S_).sem

/-! ## Buffers and row blocks -/

abbrev gM : Memref sig .tc .vmem S4096 .f32 := Memref.whole cc0_stg0_0
abbrev bufP : Memref sig .tc .vmem S128x4096 .f32 := Memref.whole cc0_scratch0
abbrev bufS : Memref sig .tc .vmem S128x4096 .f32 := Memref.whole cc0_scratch1
abbrev bufR : Memref sig .tc .vmem S128x4096 .f32 := Memref.whole cc0_scratch2
abbrev bufO : Memref sig .tc .vmem S128x4096 .f32 := Memref.whole cc0_scratch3

/-- An offset at which a block of 128 rows lies inside the 4096 rows. -/
abbrev Fits (off : Fin 2 → Nat) : Prop := ∀ a, off a + S128x4096.size a ≤ S4096x4096.size a
/-- The same for the partial sums, which carry a leading axis of extent one. -/
abbrev FitsP (off : Fin 3 → Nat) : Prop := ∀ a, off a + S1x128x4096.size a ≤ S1x4096x4096.size a

/-- 128 rows of the result. -/
abbrev outAt (off : Fin 2 → Nat) (h : Fits off) : Memref sig .tc .hbm S128x4096 .f32 :=
  (Memref.whole main_v1).slice (Rect.unit (s := S4096x4096) off S128x4096.size h) (fun _ => rfl)
/-- 128 rows of the residual. -/
abbrev residAt (off : Fin 2 → Nat) (h : Fits off) : Memref sig .tc .hbm S128x4096 .f32 :=
  (Memref.whole main_arg1).slice (Rect.unit (s := S4096x4096) off S128x4096.size h) (fun _ => rfl)
/-- 128 rows of the device's partial sums. -/
abbrev partAt (off : Fin 3 → Nat) (h : FitsP off) : Memref sig .tc .hbm S128x4096 .f32 :=
  ((Memref.whole main_arg0).slice (Rect.unit (s := S1x4096x4096) off S1x128x4096.size h) (fun _ => rfl)).squeeze S128x4096 squeezes_S1x128x4096_S128x4096

/-! ## The kinds of statement -/

/-- Send 128 rows of the partial sums into the result rows of device `d`. -/
def sendPart (offS : Fin 3 → Nat) (hS : FitsP offS) (offD : Fin 2 → Nat) (hD : Fits offD) (d : Dev nD) (js jr : Fin 66) : Piece F :=
  Prog.lift (.enqueueDma (partAt offS hS) (.remote (Dev.tc d) (outAt offD hD) (.dma (sm js))) (.dma (sm jr))
    ((View.wordExact_bits rfl).reshape _ _) (View.wordExact_bits rfl) ⟨⟨rfl, Or.inl rfl⟩, trivial⟩)

/-- Send 128 rows of the result to the same rows on device `d`. -/
def sendOut (off : Fin 2 → Nat) (h : Fits off) (d : Dev nD) (js jr : Fin 66) : Piece F :=
  Prog.lift (.enqueueDma (outAt off h) (.remote (Dev.tc d) (outAt off h) (.dma (sm js))) (.dma (sm jr))
    (View.wordExact_bits rfl) (View.wordExact_bits rfl) ⟨⟨rfl, Or.inl rfl⟩, trivial⟩)

/-- Wait for 128 rows of partial sums, arriving or sent. -/
def waitPart (offS : Fin 3 → Nat) (hS : FitsP offS) (offD : Fin 2 → Nat) (hD : Fits offD) (j : Fin 66) : Piece F :=
  Prog.lift (.waitDma2 (sm j) (partAt offS hS) (outAt offD hD) ((View.wordExact_bits rfl).reshape _ _) (View.wordExact_bits rfl))
def waitPartSent (offS : Fin 3 → Nat) (hS : FitsP offS) (offD : Fin 2 → Nat) (hD : Fits offD) (j : Fin 66) : Piece F :=
  Prog.lift (.waitDma2 (sm j) (outAt offD hD) (partAt offS hS) (View.wordExact_bits rfl) ((View.wordExact_bits rfl).reshape _ _))

/-- Wait for 128 rows of the result, arriving or sent. -/
def waitOut (off : Fin 2 → Nat) (h : Fits off) (j : Fin 66) : Piece F :=
  Prog.lift (.waitDma2 (sm j) (outAt off h) (outAt off h) (View.wordExact_bits rfl) (View.wordExact_bits rfl))

/-- Start the copies of the device's own partial rows and residual rows into its scratch buffers. -/
def fetchOwn (offS : Fin 3 → Nat) (hS : FitsP offS) (off : Fin 2 → Nat) (h : Fits off) : Piece F := do
  Prog.lift (.enqueueDma (partAt offS hS) (.here bufP) (.dma (cs 0)) ((View.wordExact_bits rfl).reshape _ _) (Memref.isWhole_whole _).wordExact ⟨Or.inl rfl, trivial⟩)
  Prog.lift (.enqueueDma (residAt off h) (.here bufR) (.dma (cs 2)) (View.wordExact_bits rfl) (Memref.isWhole_whole _).wordExact ⟨Or.inl rfl, trivial⟩)

/-- Copy the arrived partial rows into scratch and wait for all three copies. -/
def fetchPeer (offS : Fin 3 → Nat) (hS : FitsP offS) (off : Fin 2 → Nat) (h : Fits off) : Piece F := do
  Prog.lift (.enqueueDma (outAt off h) (.here bufS) (.dma (cs 1)) (View.wordExact_bits rfl) (Memref.isWhole_whole _).wordExact ⟨Or.inl rfl, trivial⟩)
  Prog.lift (.waitDma2 (cs 0) (partAt offS hS) bufP ((View.wordExact_bits rfl).reshape _ _) (Memref.isWhole_whole _).wordExact)
  Prog.lift (.waitDma2 (cs 2) (residAt off h) bufR (View.wordExact_bits rfl) (Memref.isWhole_whole _).wordExact)
  Prog.lift (.waitDma2 (cs 1) (outAt off h) bufS (View.wordExact_bits rfl) (Memref.isWhole_whole _).wordExact)

/-- All of a scratch buffer. -/
abbrev allRows : Rect S128x4096 := Rect.unit (s := S128x4096) ![0, 0] S128x4096.size inb_S128x4096_S128x4096_0_0
/-- All of the scale vector. -/
abbrev allCols : Rect S4096 := Rect.unit (s := S4096) ![0] S4096.size inb_S4096_S4096_0

/-- Normalise the 128 rows in scratch and store them in the output scratch. -/
def normalise : Piece F := do
  let p : Vec F S128x4096 .f32 ← Prog.lift (.load bufP allRows.toLoadRect (View.loadsAt_vmem h_S128x4096))
  let s : Vec F S128x4096 .f32 ← Prog.lift (.load bufS allRows.toLoadRect (View.loadsAt_vmem h_S128x4096))
  let r : Vec F S128x4096 .f32 ← Prog.lift (.load bufR allRows.toLoadRect (View.loadsAt_vmem h_S128x4096))
  let g : Vec F S4096 .f32 ← Prog.lift (.load gM allCols.toLoadRect (View.loadsAt_vmem h_S4096))
  let _o : Vec F S128x4096 .f32 ← Prog.lift (.load bufO allRows.toLoadRect (View.loadsAt_vmem h_S128x4096))
  Prog.lift (.store bufO allRows (k0_pay1 p s r g) Finset.univ (View.stores_vmem_bits_univ h_S128x4096 rfl) (.inl rfl))

/-- Copy the normalised rows into the result and wait. -/
def writeBack (off : Fin 2 → Nat) (h : Fits off) : Piece F := do
  Prog.lift (.enqueueDma bufO (.here (outAt off h)) (.dma (cs 3)) (Memref.isWhole_whole _).wordExact (View.wordExact_bits rfl) ⟨Or.inl rfl, trivial⟩)
  Prog.lift (.waitDma2 (cs 3) bufO (outAt off h) (Memref.isWhole_whole _).wordExact (View.wordExact_bits rfl))

/-! ## The body -/

/-- The neighbours as the body computes them. -/
abbrev devY (c : Dev nD) : Dev nD := ⟨k0_dev1 c, k0_dev1_lt c⟩
abbrev devX (c : Dev nD) : Dev nD := ⟨k0_dev2 c, k0_dev2_lt c⟩
/-- The row offset of chunk `k` as the body passes it to its address computations. -/
abbrev wd (k : Fin 8) : BitVec 32 := BitVec.ofNat 32 (128 * k.val)

/-- The two signals to the neighbours and the wait for theirs. -/
def handshake (c : Dev nD) : Piece F := do
  semSignalWord (devY c) barS 1#32
  semSignalWord (devX c) barS 1#32
  semWaitWord barS 2#32

/-- Chunk `k` of the partial-sum exchange is sent. -/
def exchange (c : Dev nD) (k : Fin 8) : Piece F :=
  sendPart (k0_off2 c (wd k)) (k0_off2_inb c k) (k0_off1 c (wd k)) (k0_off1_inb c k) (devY c) (at8 0 k) (at8 1 k)

/-- Chunk `k` of the device's own quarter is finished and sent to both neighbours. -/
def finish (c : Dev nD) (k : Fin 8) : Piece F := do
  fetchOwn (k0_off3 c (wd k)) (k0_off3_inb c k) (k0_off4 c (wd k)) (k0_off4_inb c k)
  waitPart (k0_off3 c (wd k)) (k0_off3_inb c k) (k0_off4 c (wd k)) (k0_off4_inb c k) (at8 1 k)
  fetchPeer (k0_off3 c (wd k)) (k0_off3_inb c k) (k0_off4 c (wd k)) (k0_off4_inb c k)
  normalise
  writeBack (k0_off4 c (wd k)) (k0_off4_inb c k)
  sendOut (k0_off4 c (wd k)) (k0_off4_inb c k) (devY c) (at8 2 k) (at8 3 k)
  sendOut (k0_off4 c (wd k)) (k0_off4_inb c k) (devX c) (at8 4 k) (at8 5 k)

/-- Chunk `k` of the `y` neighbour's quarter has arrived; all but the last chunk go on to the `x` neighbour. -/
def relay (c : Dev nD) (k : Fin 8) : Piece F :=
  waitOut (k0_off1 c (wd k)) (k0_off1_inb c k) (at8 3 k) >>= fun _ =>
    sendOut (k0_off1 c (wd k)) (k0_off1_inb c k) (devX c) (at8 6 k) (at8 7 k)

/-- Chunk `k`'s sends have left. -/
def drain (c : Dev nD) (k : Fin 8) : Piece F := do
  waitPartSent (k0_off2 c (wd k)) (k0_off2_inb c k) (k0_off1 c (wd k)) (k0_off1_inb c k) (at8 0 k)
  waitOut (k0_off1 c (wd k)) (k0_off1_inb c k) (at8 6 k)
  waitOut (k0_off4 c (wd k)) (k0_off4_inb c k) (at8 2 k)
  waitOut (k0_off4 c (wd k)) (k0_off4_inb c k) (at8 4 k)
/-- The last chunk's, which was not relayed. -/
def drainLast (c : Dev nD) : Piece F := do
  waitPartSent (k0_off2 c (wd 7)) (k0_off2_inb c 7) (k0_off1 c (wd 7)) (k0_off1_inb c 7) (at8 0 7)
  waitOut (k0_off4 c (wd 7)) (k0_off4_inb c 7) (at8 2 7)
  waitOut (k0_off4 c (wd 7)) (k0_off4_inb c 7) (at8 4 7)

/-- Pieces in sequence. -/
def run : List (Piece F) → Piece F
  | [] => pure ⟨⟩
  | p :: ps => p >>= fun _ => run ps

/-- Chunks 0 to 6, and all eight. -/
abbrev first7 : List (Fin 8) := [0, 1, 2, 3, 4, 5, 6]
abbrev all8 : List (Fin 8) := [0, 1, 2, 3, 4, 5, 6, 7]

/-- What follows the relay: the other arrivals, the last relayed chunk, and the sends draining. -/
def tail (c : Dev nD) : Piece F := do
  run (all8.map fun k => waitOut (k0_off5 c (wd k)) (k0_off5_inb c k) (at8 5 k))
  sendOut (k0_off5 c (wd 7)) (k0_off5_inb c 7) (devY c) jCs jCr
  run (first7.map fun k => waitOut (k0_off6 c (wd k)) (k0_off6_inb c k) (at8 7 k))
  waitOut (k0_off6 c (wd 7)) (k0_off6_inb c 7) jCr
  waitOut (k0_off5 c (wd 7)) (k0_off5_inb c 7) jCs
  run (first7.map (drain c))
  drainLast c

/-- The body on device `c`. -/
def bodyOn (c : Dev nD) : Piece F := do
  handshake c
  run (all8.map (exchange c))
  run (all8.map (finish c))
  run (first7.map (relay c))
  waitOut (k0_off1 c (wd 7)) (k0_off1_inb c 7) (at8 3 7)
  tail c

/-- The printed body is the structured one. -/
theorem bodyAt_eq : bodyAt0 (F := F) t0_0 = (Prog.lift .deviceId >>= fun c => bodyOn c) := by
  chain_rfl

end Cert.KernelIdealRun

end
-- ==== Proof.GeometryIdeal.lean ====
/-
# The neighbours, the row blocks and the contents

The four devices form a 2 by 2 mesh. The 4096 rows fall into four quarters of 1024 rows, one per device, each of eight
blocks of 128 rows. This file gives the blocks their names, says that they partition the arrays, and defines what the
arrays hold as a function "stitched" from one function per block.
-/
module

public import proofs.«01_k».proof.Proof.ProgramIdeal
public import Idealize.ShloMosaic.Lib.Pipeline.Launch
public import Idealize.ShloMosaic.Lib.Pipeline.Kit
public import Idealize.ShloMosaic.Lib.Ring

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging copies', the protocol's (two duties per cell) and the local copies' -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## The neighbours -/

set_option backward.proofsInPublic true in
/-- The neighbour along `y`: the other device of the same row of the mesh. -/
def yn (c : Dev nD) : Dev nD := ⟨(2 * (c.val / 2) + 1) - c.val % 2, by have := c.isLt; simp only [nD] at *; omega⟩
set_option backward.proofsInPublic true in
/-- The neighbour along `x`: the other device of the same column. -/
def xn (c : Dev nD) : Dev nD := ⟨(c.val % 2 + 2) - 2 * (c.val / 2), by have := c.isLt; simp only [nD] at *; omega⟩
/-- The device diagonally opposite. -/
def dg (c : Dev nD) : Dev nD := xn (yn c)

theorem yn_yn (c : Dev nD) : yn (yn c) = c := by revert c; decide
theorem xn_xn (c : Dev nD) : xn (xn c) = c := by revert c; decide
theorem yn_xn (c : Dev nD) : yn (xn c) = dg c := by revert c; decide
theorem xn_yn (c : Dev nD) : xn (yn c) = dg c := rfl
theorem dg_yn (c : Dev nD) : dg (yn c) = xn c := by revert c; decide
theorem dg_xn (c : Dev nD) : dg (xn c) = yn c := by revert c; decide
theorem four (c : Dev nD) : (Finset.univ : Finset (Dev nD)) = {c, yn c, xn c, dg c} := by revert c; decide
theorem four_nodup (c : Dev nD) : [c, yn c, xn c, dg c].Nodup := by revert c; decide

theorem devY_eq (c : Dev nD) : devY c = yn c := Fin.ext (k0_dev1_eq c)
theorem devX_eq (c : Dev nD) : devX c = xn c := Fin.ext (k0_dev2_eq c)

/-- Crossing to the `y` neighbour, and to the `x` neighbour, as permutations of the devices. -/
def flipY : Dev nD ≃ Dev nD := ⟨yn, yn, yn_yn, yn_yn⟩
def flipX : Dev nD ≃ Dev nD := ⟨xn, xn, xn_xn, xn_xn⟩

/-! ## The row blocks -/

/-- The first row of block `k` of quarter `q`, as an offset. -/
abbrev off (q : Dev nD) (k : Fin 8) : Fin 2 → Nat := ![1024 * q.val + 128 * k.val, 0]
abbrev offP (q : Dev nD) (k : Fin 8) : Fin 3 → Nat := ![0, 1024 * q.val + 128 * k.val, 0]
theorem fits (q : Dev nD) (k : Fin 8) : Fits (off q k) := by
  have := q.isLt; have := k.isLt; simp only [nD] at *
  intro a; fin_cases a <;> simp [S128x4096, S4096x4096] <;> omega
theorem fitsP (q : Dev nD) (k : Fin 8) : FitsP (offP q k) := by
  have := q.isLt; have := k.isLt; simp only [nD] at *
  intro a; fin_cases a <;> simp [S1x128x4096, S1x4096x4096] <;> omega

/-- Block `k` of quarter `q` of the result, of the residual and of the partial sums. -/
abbrev outM (q : Dev nD) (k : Fin 8) := outAt (off q k) (fits q k)
abbrev residM (q : Dev nD) (k : Fin 8) := residAt (off q k) (fits q k)
abbrev partM (q : Dev nD) (k : Fin 8) := partAt (offP q k) (fitsP q k)

/-- The offsets the body computes are those of the quarters of the device itself and of the other three. -/
theorem off1_eq (c : Dev nD) (k : Fin 8) : k0_off1 c (wd k) = off (yn c) k := by
  rw [wd, k0_off1_eq]; have := c.isLt; have := k.isLt; simp only [nD] at *
  refine congrArg (fun n => (![n, 0] : Fin 2 → Nat)) ?_; simp only [yn]; omega
theorem off2_eq (c : Dev nD) (k : Fin 8) : k0_off2 c (wd k) = offP (yn c) k := by
  rw [wd, k0_off2_eq]; have := c.isLt; have := k.isLt; simp only [nD] at *
  refine congrArg (fun n => (![0, n, 0] : Fin 3 → Nat)) ?_; simp only [yn]; omega
theorem off3_eq (c : Dev nD) (k : Fin 8) : k0_off3 c (wd k) = offP c k := by
  rw [wd, k0_off3_eq]; have := c.isLt; have := k.isLt; simp only [nD] at *
  refine congrArg (fun n => (![0, n, 0] : Fin 3 → Nat)) ?_; omega
theorem off4_eq (c : Dev nD) (k : Fin 8) : k0_off4 c (wd k) = off c k := by
  rw [wd, k0_off4_eq]; have := c.isLt; have := k.isLt; simp only [nD] at *
  refine congrArg (fun n => (![n, 0] : Fin 2 → Nat)) ?_; omega
theorem off5_eq (c : Dev nD) (k : Fin 8) : k0_off5 c (wd k) = off (xn c) k := by
  rw [wd, k0_off5_eq]; have := c.isLt; have := k.isLt; simp only [nD] at *
  refine congrArg (fun n => (![n, 0] : Fin 2 → Nat)) ?_; simp only [xn]; omega
theorem off6_eq (c : Dev nD) (k : Fin 8) : k0_off6 c (wd k) = off (dg c) k := by
  rw [wd, k0_off6_eq]; have := c.isLt; have := k.isLt; simp only [nD] at *
  refine congrArg (fun n => (![n, 0] : Fin 2 → Nat)) ?_; simp only [dg, xn, yn]; omega

/-! ## The block of a row, and functions given block by block -/

set_option backward.proofsInPublic true in
/-- The quarter, the block and the place within the block of an element. -/
def qOf (i : S4096x4096.Idx) : Dev nD := ⟨(i 0).val / 1024, by have : (i 0).val < 4096 := (i 0).isLt; simp only [nD]; omega⟩
set_option backward.proofsInPublic true in
def kOf (i : S4096x4096.Idx) : Fin 8 := ⟨(i 0).val / 128 % 8, by omega⟩
set_option backward.proofsInPublic true in
def jOf (i : S4096x4096.Idx) : S128x4096.Idx := fun a => match a with
  | ⟨0, _⟩ => ⟨(i 0).val % 128, by show _ < 128; omega⟩
  | ⟨1, _⟩ => ⟨(i 1).val, (i 1).isLt⟩

/-- The element at place `j` of block `k` of quarter `q`. -/
abbrev place (q : Dev nD) (k : Fin 8) (j : S128x4096.Idx) : S4096x4096.Idx :=
  (Rect.unit (s := S4096x4096) (off q k) S128x4096.size (fits q k)).emb j

theorem place_row (q : Dev nD) (k : Fin 8) (j : S128x4096.Idx) : ((place q k j) 0).val = 1024 * q.val + 128 * k.val + (j 0).val := by
  show 1024 * q.val + 128 * k.val + 1 * (j 0).val = _; omega
theorem place_col (q : Dev nD) (k : Fin 8) (j : S128x4096.Idx) : ((place q k j) 1).val = (j 1).val := by
  show 0 + 1 * (j 1).val = _; omega

theorem qOf_place (q : Dev nD) (k : Fin 8) (j : S128x4096.Idx) : qOf (place q k j) = q := by
  have h := place_row q k j; have := k.isLt; have : (j 0).val < 128 := (j 0).isLt
  refine Fin.ext ?_; simp only [qOf]; omega
theorem kOf_place (q : Dev nD) (k : Fin 8) (j : S128x4096.Idx) : kOf (place q k j) = k := by
  have h := place_row q k j; have := k.isLt; have : (j 0).val < 128 := (j 0).isLt
  refine Fin.ext ?_; simp only [kOf]; omega
theorem jOf_place (q : Dev nD) (k : Fin 8) (j : S128x4096.Idx) : jOf (place q k j) = j := by
  have h := place_row q k j; have h' := place_col q k j; have := k.isLt; have : (j 0).val < 128 := (j 0).isLt
  funext a; fin_cases a
  · refine Fin.ext ?_; show (place q k j 0).val % 128 = (j 0).val; omega
  · exact Fin.ext h'
theorem place_of (i : S4096x4096.Idx) : place (qOf i) (kOf i) (jOf i) = i := by
  have : (i 0).val < 4096 := (i 0).isLt
  funext a; fin_cases a
  · refine Fin.ext ((place_row _ _ _).trans ?_); show 1024 * ((i 0).val / 1024) + 128 * ((i 0).val / 128 % 8) + (i 0).val % 128 = (i 0).val; omega
  · exact Fin.ext (place_col _ _ _)

/-- An array of 4096 rows given by what its blocks hold. -/
def stitch {A : Type} (G : Dev nD → Fin 8 → S128x4096.Idx → A) : S4096x4096.Idx → A := fun i => G (qOf i) (kOf i) (jOf i)
theorem stitch_place {A : Type} (G : Dev nD → Fin 8 → S128x4096.Idx → A) (q : Dev nD) (k : Fin 8) (j : S128x4096.Idx) :
    stitch G (place q k j) = G q k j := by
  unfold stitch; rw [qOf_place, kOf_place, jOf_place]

theorem out_emb (q : Dev nD) (k : Fin 8) (j : S128x4096.Idx) : (outM q k).view.emb j = place q k j := rfl

/-- Reading a stitched array's block gives that block. -/
theorem read_stitch (G : Dev nD → Fin 8 → S128x4096.Idx → Elt F .f32) (q : Dev nD) (k : Fin 8) :
    (outM q k).view.read (Elt F) (stitch G) = G q k := by
  funext j; exact stitch_place G q k j

/-- Writing a block with what the stitched array holds there agrees with the stitched array on the block. -/
theorem write_stitch (G : Dev nD → Fin 8 → S128x4096.Idx → Elt F .f32) (q : Dev nD) (k : Fin 8)
    (fd : (outM q k).view.ty.Contents (Elt F)) (i) (hi : i ∈ (outM q k).view.set) :
    (outM q k).view.write (Elt F) fd (G q k) Finset.univ i = stitch G i := by
  obtain ⟨j, -, rfl⟩ := Finset.mem_map.mp hi
  exact (View.write_emb_of_mem _ _ (Finset.mem_univ j)).trans (stitch_place G q k j).symm

/-! ## The blocks partition the arrays -/

/-- A block's rows as a set of elements. -/
abbrev rows (b : Dev nD × Fin 8) : Finset S4096x4096.Idx := (Rect.unit (s := S4096x4096) (off b.1 b.2) S128x4096.size (fits b.1 b.2)).set

theorem mem_rows (b : Dev nD × Fin 8) (i : S4096x4096.Idx) : i ∈ rows b ↔ (qOf i, kOf i) = b := by
  rw [rows, ← Rect.map_emb_univ, Finset.mem_map]
  constructor
  · rintro ⟨j, -, rfl⟩; exact Prod.ext (qOf_place b.1 b.2 j) (kOf_place b.1 b.2 j)
  · rintro rfl; exact ⟨jOf i, Finset.mem_univ _, place_of i⟩

theorem rows_disjoint (b b' : Dev nD × Fin 8) (h : b ≠ b') : Disjoint (rows b) (rows b') :=
  Finset.disjoint_left.mpr fun i hi hi' => h (((mem_rows b i).mp hi).symm.trans ((mem_rows b' i).mp hi'))
theorem rows_cover : Finset.univ.biUnion rows = (Finset.univ : Finset S4096x4096.Idx) :=
  Finset.eq_univ_iff_forall.mpr fun i => Finset.mem_biUnion.mpr ⟨(qOf i, kOf i), Finset.mem_univ _, (mem_rows _ i).mpr rfl⟩

/-- The same for the partial sums: the elements of a block under the leading axis of extent one. -/
abbrev rowsP (b : Dev nD × Fin 8) : Finset S1x4096x4096.Idx :=
  (Rect.unit (s := S1x4096x4096) (offP b.1 b.2) S1x128x4096.size (fitsP b.1 b.2)).set

set_option backward.proofsInPublic true in
/-- Dropping the leading axis. -/
def flat (i : S1x4096x4096.Idx) : S4096x4096.Idx := fun a => match a with
  | ⟨0, _⟩ => ⟨(i 1).val, (i 1).isLt⟩
  | ⟨1, _⟩ => ⟨(i 2).val, (i 2).isLt⟩

theorem mem_rowsP (b : Dev nD × Fin 8) (i : S1x4096x4096.Idx) : i ∈ rowsP b ↔ flat i ∈ rows b := by
  rw [Rect.mem_set_unit, Rect.mem_set_unit]
  constructor
  · intro h a; fin_cases a
    · exact h 1
    · exact h 2
  · intro h a; fin_cases a
    · refine ⟨Nat.zero_le _, ?_⟩; have : (i 0).val < 1 := (i 0).isLt; show (i 0).val < 0 + 1; omega
    · exact h 0
    · exact h 1

theorem rowsP_disjoint (b b' : Dev nD × Fin 8) (h : b ≠ b') : Disjoint (rowsP b) (rowsP b') :=
  Finset.disjoint_left.mpr fun i hi hi' =>
    Finset.disjoint_left.mp (rows_disjoint b b' h) ((mem_rowsP b i).mp hi) ((mem_rowsP b' i).mp hi')
theorem rowsP_cover : Finset.univ.biUnion rowsP = (Finset.univ : Finset S1x4096x4096.Idx) :=
  Finset.eq_univ_iff_forall.mpr fun i => Finset.mem_biUnion.mpr ⟨(qOf (flat i), kOf (flat i)), Finset.mem_univ _, (mem_rowsP _ i).mpr ((mem_rows _ _).mpr rfl)⟩

theorem out_set (q : Dev nD) (k : Fin 8) : (outM q k).view.set = rows (q, k) := View.set_slice_whole _ _
theorem resid_set (q : Dev nD) (k : Fin 8) : (residM q k).view.set = rows (q, k) := View.set_slice_whole _ _
theorem part_set (q : Dev nD) (k : Fin 8) : (partM q k).view.set = rowsP (q, k) := (View.set_reshape _ _).trans (View.set_slice_whole _ _)

/-! ## Holding a block -/

/-- Block `(q, k)` of device `c`'s result, residual or partial sums, held at share `s` with contents `f`. -/
def oPts (c q : Dev nD) (k : Fin 8) (s : PosShare TreeShare) (f : S4096x4096.Idx → Elt F .f32) : sProp 𝕄 :=
  (outM q k).view.loc (c : Thread nD τ) ↦[(outM q k).view.set]{s} f
def rPts (c q : Dev nD) (k : Fin 8) (f : S4096x4096.Idx → Elt F .f32) : sProp 𝕄 :=
  (residM q k).view.loc (c : Thread nD τ) ↦[(residM q k).view.set]{fullShare} f
def pPts (c q : Dev nD) (k : Fin 8) (f : S1x4096x4096.Idx → Elt F .f32) : sProp 𝕄 :=
  (partM q k).view.loc (c : Thread nD τ) ↦[(partM q k).view.set]{fullShare} f

omit [FloatOps F] in
instance oPts_storable (c q : Dev nD) (k : Fin 8) (s f) : BI.Storable (upEmb : UEmb _ 𝕄) (oPts (F := F) c q k s f) := by unfold oPts; infer_instance
omit [FloatOps F] in
instance pPts_storable (c q : Dev nD) (k : Fin 8) (f) : BI.Storable (upEmb : UEmb _ 𝕄) (pPts (F := F) c q k f) := by unfold pPts; infer_instance

omit [FloatOps F] in
/-- A whole array is held block by block. -/
theorem out_blocks (c : Dev nD) (f : S4096x4096.Idx → Elt F .f32) :
    (((c : Thread nD τ).loc main_v1) ↦{fullShare} f : sProp 𝕄) = bigSep Finset.univ fun b : Dev nD × Fin 8 => oPts c b.1 b.2 fullShare f := by
  refine (Ring.pointsTo_blocks (ℓ := (c : Thread nD τ).loc main_v1) rows rows_disjoint rows_cover f).trans (bigSep_congr fun b _ => ?_)
  unfold oPts; rw [out_set]
omit [FloatOps F] in
theorem resid_blocks (c : Dev nD) (f : S4096x4096.Idx → Elt F .f32) :
    (((c : Thread nD τ).loc main_arg1) ↦{fullShare} f : sProp 𝕄) = bigSep Finset.univ fun b : Dev nD × Fin 8 => rPts c b.1 b.2 f := by
  refine (Ring.pointsTo_blocks (ℓ := (c : Thread nD τ).loc main_arg1) rows rows_disjoint rows_cover f).trans (bigSep_congr fun b _ => ?_)
  unfold rPts; rw [resid_set]
omit [FloatOps F] in
theorem part_blocks (c : Dev nD) (f : S1x4096x4096.Idx → Elt F .f32) :
    (((c : Thread nD τ).loc main_arg0) ↦{fullShare} f : sProp 𝕄) = bigSep Finset.univ fun b : Dev nD × Fin 8 => pPts c b.1 b.2 f := by
  refine (Ring.pointsTo_blocks (ℓ := (c : Thread nD τ).loc main_arg0) rowsP rowsP_disjoint rowsP_cover f).trans (bigSep_congr fun b _ => ?_)
  unfold pPts; rw [part_set]

/-- A block just written with what the stitched array holds there is the block of the stitched array. -/
theorem oPts_written (c q : Dev nD) (k : Fin 8) (s : PosShare TreeShare) (G : Dev nD → Fin 8 → S128x4096.Idx → Elt F .f32)
    (fd : S4096x4096.Idx → Elt F .f32) :
    ((outM q k).view.loc (c : Thread nD τ) ↦[(outM q k).view.set]{s} ((outM q k).view.write (Elt F) fd (G q k) Finset.univ) : sProp 𝕄)
      = oPts c q k s (stitch G) := by
  unfold oPts
  exact pointsTo_congr fun i hi => write_stitch G q k fd i hi

omit [FloatOps F] in
/-- A block's two half shares. -/
theorem oPts_halves (c q : Dev nD) (k : Fin 8) (f : S4096x4096.Idx → Elt F .f32) :
    oPts c q k fullShare f ⊣⊢ iprop(oPts (F := F) c q k fullShare.left f ∗ oPts c q k fullShare.right f) := by
  unfold oPts; exact pointsTo_share (PosShare.mem_left_op_right _)

/-! ## The contents -/

variable (m : (ℓ : Loc nD τ sig) → Buf (Elt F) ℓ)

/-- What device `c`'s arrays hold at launch. -/
def partV (c : Dev nD) : S1x4096x4096.Idx → Elt F .f32 := m ((c : Thread nD τ).loc main_arg0)
def resV (c : Dev nD) : S4096x4096.Idx → Elt F .f32 := m ((c : Thread nD τ).loc main_arg1)
def outV (c : Dev nD) : S4096x4096.Idx → Elt F .f32 := m ((c : Thread nD τ).loc main_v1)
/-- The scale vector as staged. -/
def gamV (c : Dev nD) : (cc0_stg0_0 : Ref sig .tc).ty.Contents (Elt F) :=
  (win0_0.blk (0 : Fin 1)).view.read (Elt F) (m ((c : Thread nD τ).loc main_arg2))

/-- Block `(q, k)` of device `c`'s partial sums. -/
def partB (c q : Dev nD) (k : Fin 8) : S128x4096.Idx → Elt F .f32 := (partM q k).view.read (Elt F) (partV m c)
/-- The result's rows while they hold the partial sums that device `c` sent. -/
def sentV (c : Dev nD) : S4096x4096.Idx → Elt F .f32 := stitch (partB m c)
/-- The finished block `k` of quarter `q`, computed on device `q`. -/
def doneB (q : Dev nD) (k : Fin 8) : S128x4096.Idx → Elt F .f32 :=
  k0_pay1 (partB m q q k) (partB m (yn q) q k) ((residM q k).view.read (Elt F) (resV m q)) (gamV m q)
/-- The finished result, the same on every device. -/
def doneV : S4096x4096.Idx → Elt F .f32 := stitch (doneB m)

end Cert.KernelIdealRun

end
-- ==== Proof.ScheduleIdeal.lean ====
/-
# The protocol

Every semaphore is used for one round. The barrier semaphore of a device has two duties, one paid by each neighbour; a
remote copy's semaphore has one. This file says what each payment hands over, what a device owes at the start and in
which order it pays, and a level for every semaphore such that a device waits only below what it still owes.
-/
module

public import proofs.«01_k».proof.Proof.GeometryIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One resource per chunk -/

section Each
variable {M : Type} [URA M]

/-- `A k` for each `k` of a list, side by side. -/
def each (A : Fin 8 → sProp M) : List (Fin 8) → sProp M
  | [] => iprop(emp)
  | k :: l => iprop(A k ∗ each A l)

theorem each_nil (A : Fin 8 → sProp M) : each A [] = iprop(emp) := rfl
theorem each_cons (A : Fin 8 → sProp M) (k : Fin 8) (l : List (Fin 8)) : each A (k :: l) = iprop(A k ∗ each A l) := rfl

/-- Pairs, chunk by chunk. -/
theorem each_sep (A B : Fin 8 → sProp M) (l : List (Fin 8)) : each (fun k => iprop(A k ∗ B k)) l ⊣⊢ iprop(each A l ∗ each B l) := by
  induction l with
  | nil => exact (sep_emp (PROP := sProp M)).symm
  | cons k l ih =>
    simp only [each_cons]
    constructor
    · iintro ⟨⟨HA, HB⟩, H⟩
      ihave H' := ih.1 $$ H
      icases H' with ⟨H1, H2⟩
      isplitl [HA H1]
      · isplitl [HA] <;> iassumption
      · isplitl [HB] <;> iassumption
    · iintro ⟨⟨HA, H1⟩, HB, H2⟩
      isplitl [HA HB]
      · isplitl [HA] <;> iassumption
      · iapply ih.2; isplitl [H1] <;> iassumption

theorem each_mono {A B : Fin 8 → sProp M} (h : ∀ k, A k ⊢ B k) (l : List (Fin 8)) : each A l ⊢ each B l := by
  induction l with
  | nil => exact Entails.refl _
  | cons k l ih => exact BI.sep_mono (h k) ih

/-- Over a list without repetition this is the separating product over its members. -/
theorem each_eq (A : Fin 8 → sProp M) : ∀ l : List (Fin 8), l.Nodup → bigSep l.toFinset A = each A l
  | [], _ => bigSep_empty
  | k :: l, h => by
    rw [List.toFinset_cons, bigSep_insert (by rw [List.mem_toFinset]; exact (List.nodup_cons.mp h).1), each_eq A l (List.nodup_cons.mp h).2]; rfl

/-- All eight chunks. -/
theorem each_all (A : Fin 8 → sProp M) : bigSep Finset.univ A = each A all8 := by
  rw [← each_eq A all8 (by decide)]; exact congrArg (fun s => bigSep s A) (by decide)

/-- The first seven chunks and the last. -/
theorem each_last (A : Fin 8 → sProp M) : each A all8 ⊣⊢ iprop(each A first7 ∗ A 7) := by
  simp only [each_cons, each_nil]
  constructor
  · iintro ⟨H0, H1, H2, H3, H4, H5, H6, H7, -⟩
    isplitr [H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iempintro
    · iexact H7
  · iintro ⟨⟨H0, H1, H2, H3, H4, H5, H6, -⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro

instance each_storable {N : Type} [URA N] {up : UEmb N M} [up.IsFactor] (A : Fin 8 → sProp M) [∀ k, BI.Storable up (A k)] :
    ∀ l : List (Fin 8), BI.Storable up (each A l)
  | [] => by rw [each_nil]; infer_instance
  | k :: l => by have := each_storable (up := up) A l; rw [each_cons]; infer_instance

end Each

/-! ## The cells -/

/-- A semaphore of the protocol: the barrier's, or remote semaphore `j`. -/
abbrev Slot : Type := Option (Fin 66)
abbrev csem : Slot → SemLoc sig
  | none => .reg barS
  | some j => .dma (sm j)
abbrev kcell (ck : Dev nD × Slot) : GSem nD τ sig := ((ck.1 : Thread nD τ), csem ck.2)
abbrev barCell (c : Dev nD) : GSem nD τ sig := kcell (c, none)
abbrev dcell (c : Dev nD) (j : Fin 66) : GSem nD τ sig := kcell (c, some j)

set_option backward.proofsInPublic true in
/-- Which of them a semaphore is, if any. -/
def slotOf : SemLoc sig → Option Slot
  | .reg s => if s = barS then some none else none
  | .dma d => if h : 1 ≤ d.val ∧ d.val < 67 then some (some ⟨d.val - 1, by omega⟩) else none

theorem slotOf_csem (s : Slot) : slotOf (csem s) = some s := by
  cases s with
  | none => unfold slotOf; exact if_pos rfl
  | some j =>
    have := j.isLt
    unfold slotOf
    refine (dif_pos (⟨?_, ?_⟩ : 1 ≤ j.val + 1 ∧ j.val + 1 < 67)).trans ?_
    · omega
    · omega
    · rfl
theorem slotOf_local (i : Fin 4) : slotOf (.dma (cs i)) = none := by
  have := i.isLt
  unfold slotOf; exact dif_neg (fun h : 1 ≤ i.val + 67 ∧ i.val + 67 < 67 => by omega)
theorem slotOf_stage : slotOf (.dma (⟨0, by decide⟩ : DmaSem sig)) = none := by
  unfold slotOf; exact dif_neg (fun h : 1 ≤ 0 ∧ 0 < 67 => by omega)

theorem kcell_injective : Function.Injective (kcell : Dev nD × Slot → GSem nD τ sig) := by
  rintro ⟨c, k⟩ ⟨c', k'⟩ h
  have h1 : c = c' := congrArg (fun g : GSem nD τ sig => g.1.1) h
  have h2 : csem k = csem k' := congrArg Prod.snd h
  have h3 : k = k' := by have := congrArg slotOf h2; rw [slotOf_csem, slotOf_csem] at this; exact Option.some.inj this
  rw [h1, h3]

/-- The credit of one block of 128 rows. -/
@[irreducible] def N : ℕ := (outM 0 0).view.dmaCredit
theorem N_pos : 0 < N := by unfold N; exact View.dmaCredit_pos _ (by decide)

/-- The last chunk is not relayed by the usual semaphores, so two of them stay unused. -/
def live (j : Fin 66) : Bool := j ≠ at8 6 7 && j ≠ at8 7 7

variable (m : (ℓ : Loc nD τ sig) → Buf (Elt F) ℓ)

/-! ## What is handed over -/

/-- What the completion of a remote copy of chunk `k` hands device `c`, by the array the semaphore is in: the sending
    side gets its source back, the receiving side the block that arrived. -/
def fam (f : Fin 8) (c : Dev nD) (k : Fin 8) : sProp 𝕄 := match f with
  | 0 => pPts c (yn c) k (partV m c)
  | 1 => oPts c c k fullShare (sentV m (yn c))
  | 2 => oPts c c k fullShare.left (doneV m)
  | 3 => oPts c (yn c) k fullShare (doneV m)
  | 4 => oPts c c k fullShare.right (doneV m)
  | 5 => oPts c (xn c) k fullShare (doneV m)
  | 6 => oPts c (yn c) k fullShare (doneV m)
  | 7 => oPts c (dg c) k fullShare (doneV m)

set_option backward.proofsInPublic true in
def pay (c : Dev nD) (j : Fin 66) : sProp 𝕄 :=
  if j = jCs then oPts c (xn c) 7 fullShare (doneV m)
  else if j = jCr then oPts c (dg c) 7 fullShare (doneV m)
  else fam m ⟨j.val / 8 % 8, by omega⟩ c ⟨j.val % 8, by omega⟩

theorem pay_at8 (c : Dev nD) (f k : Fin 8) : pay m c (at8 f k) = fam m f c k := by
  have := f.isLt; have := k.isLt
  unfold pay
  rw [if_neg (fun h => by have := congrArg Fin.val h; simp [at8] at this; omega), if_neg (fun h => by have := congrArg Fin.val h; simp [at8] at this; omega)]
  congr 1
  · refine Fin.ext ?_; show (8 * f.val + k.val) / 8 % 8 = f.val; omega
  · refine Fin.ext ?_; show (8 * f.val + k.val) % 8 = k.val; omega
theorem pay_Cs (c : Dev nD) : pay m c jCs = oPts c (xn c) 7 fullShare (doneV m) := if_pos rfl
theorem pay_Cr (c : Dev nD) : pay m c jCr = oPts c (dg c) 7 fullShare (doneV m) := (if_neg (by decide)).trans (if_pos rfl)

/-- Block `(q, k)` of device `e`'s result as it was at launch. -/
def raw (e q : Dev nD) (k : Fin 8) : sProp 𝕄 := oPts e q k fullShare (outV m e)

/-- What the neighbours' barrier signals hand device `c`: the rows it will send to. The `y` neighbour gives (`false`) the
    blocks of its own quarter and of `c`'s and one more, the `x` neighbour (`true`) those of `c`'s quarter and seven of
    the quarter of `c`'s `y` neighbour. -/
def barPay (c : Dev nD) (d : Bool) : sProp 𝕄 :=
  if d then iprop(each (raw m (xn c) c) all8 ∗ each (raw m (xn c) (yn c)) first7)
  else iprop(each (raw m (yn c) (yn c)) all8 ∗ each (raw m (yn c) c) all8 ∗ raw m (yn c) (xn c) 7)

instance fam_storable (f : Fin 8) (c : Dev nD) (k : Fin 8) : BI.Storable (upEmb : UEmb _ 𝕄) (fam (F := F) m f c k) := by
  unfold fam; split <;> infer_instance
instance pay_storable (c : Dev nD) (j : Fin 66) : BI.Storable (upEmb : UEmb _ 𝕄) (pay (F := F) m c j) := by
  unfold pay; (repeat' split) <;> infer_instance
instance raw_storable (e q : Dev nD) (k : Fin 8) : BI.Storable (upEmb : UEmb _ 𝕄) (raw (F := F) m e q k) := by unfold raw; infer_instance
instance barPay_storable (c : Dev nD) (d : Bool) : BI.Storable (upEmb : UEmb _ 𝕄) (barPay (F := F) m c d) := by
  unfold barPay; split <;> infer_instance

/-! ## The schedule -/

def slotDuties : Slot → Finset Bool
  | none => Finset.univ
  | some j => if live j then {false} else ∅
def slotPay (c : Dev nD) (d : Bool) : Option Slot → sProp 𝕄
  | some none => barPay m c d
  | some (some j) => pay m c j
  | none => iprop(emp)
def semAmount : SemLoc sig → ℕ
  | .reg _ => 1
  | .dma _ => N

def Rd : Rounds.Schedule (GSem nD τ sig) Bool 𝕄 where
  duties g r := if r = 0 ∧ g.1.2 = .tc then (match slotOf g.2 with | some s => slotDuties s | none => ∅) else ∅
  unitless _ := False
  amount g _ _ := semAmount g.2
  payload g _ d := slotPay m g.1.1 d (slotOf g.2)
  amount_pos g _ _ _ := by
    unfold semAmount; split
    · exact Nat.one_pos
    · exact N_pos

instance Rd_storable (g : GSem nD τ sig) (r : ℕ) (d : Bool) : BI.Storable (upEmb : UEmb _ 𝕄) ((Rd (F := F) m).payload g r d) := by
  show BI.Storable upEmb (slotPay m g.1.1 d (slotOf g.2))
  unfold slotPay; split <;> infer_instance

theorem duties_bar (c : Dev nD) : (Rd (F := F) m).duties (barCell c) 0 = Finset.univ := by
  dsimp only [Rd]; rw [if_pos ⟨rfl, rfl⟩, slotOf_csem none]; rfl
theorem duties_live (c : Dev nD) (j : Fin 66) (h : live j = true) : (Rd (F := F) m).duties (dcell c j) 0 = {false} := by
  dsimp only [Rd]; rw [if_pos ⟨rfl, rfl⟩, slotOf_csem (some j)]; exact if_pos h
theorem duties_idle (c : Dev nD) (j : Fin 66) (h : live j = false) : ∀ r, 0 ≤ r → (Rd (F := F) m).duties (dcell c j) r = ∅ := by
  intro r _; dsimp only [Rd]; split
  · rw [slotOf_csem (some j)]; show (if live j then _ else _) = _; rw [h]; rfl
  · rfl
theorem duties_later (g : GSem nD τ sig) : ∀ r, 0 + 1 ≤ r → (Rd (F := F) m).duties g r = ∅ :=
  fun r hr => by dsimp only [Rd]; exact if_neg fun h => by omega

theorem amount_bar (c : Dev nD) (d : Bool) : (Rd (F := F) m).amount (barCell c) 0 d = 1 := rfl
theorem amount_dma (c : Dev nD) (j : Fin 66) (d : Bool) : (Rd (F := F) m).amount (dcell c j) 0 d = N := rfl
theorem expect_bar (c : Dev nD) : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_live (c : Dev nD) (j : Fin 66) (h : live j = true) : (Rd (F := F) m).expect (dcell c j) 0 = N := by
  unfold Schedule.expect Schedule.amountOf; rw [duties_live m c j h, Finset.sum_singleton, amount_dma]

theorem payload_bar (c : Dev nD) (d : Bool) : (Rd (F := F) m).payload (barCell c) 0 d = barPay m c d := by
  dsimp only [Rd]; rw [slotOf_csem none]; rfl
theorem payload_dma (c : Dev nD) (j : Fin 66) (d : Bool) : (Rd (F := F) m).payload (dcell c j) 0 d = pay m c j := by
  dsimp only [Rd]; rw [slotOf_csem (some j)]; rfl

theorem rest_bar (c : Dev nD) : bigSep ((Rd (F := F) m).duties (barCell c) 0 \ ∅) (fun d => (Rd (F := F) m).payload (barCell c) 0 d)
    = iprop(barPay m c false ∗ barPay m c true) := by
  rw [Finset.sdiff_empty, duties_bar, bigSep_univ_eq_bigSepL [false, true] (by decide) (by decide), bigSepL_cons_cons, bigSepL_singleton,
    payload_bar, payload_bar]
  rfl
theorem rest_live (c : Dev nD) (j : Fin 66) (h : live j = true) :
    bigSep ((Rd (F := F) m).duties (dcell c j) 0 \ ∅) (fun d => (Rd (F := F) m).payload (dcell c j) 0 d) = pay m c j := by
  rw [Finset.sdiff_empty, duties_live m c j h, bigSep_singleton, payload_dma]

/-! ## What a device owes -/

/-- A list of debts over chunks, on top of another. -/
def debt (f : Fin 8 → CellTallies nD τ sig Unit) (R : CellTallies nD τ sig Unit) : List (Fin 8) → CellTallies nD τ sig Unit
  | [] => R
  | k :: l => debt f R l + f k

/-- One block's credit to semaphore `j` of device `e`. -/
def due (e : Dev nD) (j : Fin 66) : CellTallies nD τ sig Unit := tallyAt (dcell e j) () N

/-- What device `c` still owes: the last relayed chunk; the relayed chunks; the finished chunks; the partial sums. -/
def OC (c : Dev nD) : CellTallies nD τ sig Unit := due (yn c) jCr
def OF (c : Dev nD) : List (Fin 8) → CellTallies nD τ sig Unit := debt (fun k => due (xn c) (at8 7 k)) (OC c)
def OA (c : Dev nD) : List (Fin 8) → CellTallies nD τ sig Unit := debt (fun k => due (xn c) (at8 5 k) + due (yn c) (at8 3 k)) (OF c first7)
def OP (c : Dev nD) : List (Fin 8) → CellTallies nD τ sig Unit := debt (fun k => due (yn c) (at8 1 k)) (OA c all8)
/-- And at the start, the two barrier signals, the `y` neighbour's paid first. -/
def O₁ (c : Dev nD) : CellTallies nD τ sig Unit := OP c all8 + tallyAt (barCell (xn c)) () 1
def O₀ (c : Dev nD) : CellTallies nD τ sig Unit := O₁ c + tallyAt (barCell (yn c)) () 1

/-! ## Levels -/

def L (g : GSem nD τ sig) : Finset Unit := if g.1.2 = .tc then {()} else ∅
/-- Partial sums below finished chunks, these below relayed ones, the last relayed chunk on top. -/
def level (j : Fin 66) : ℕ :=
  if j.val = 65 then 5 else if j.val / 8 = 1 then 2 else if j.val / 8 = 3 then 3 else if j.val / 8 = 5 then 3 else if j.val / 8 = 7 then 4 else 0
def slotLevel : Option Slot → ℕ
  | some none => 1
  | some (some j) => level j
  | none => 0
def lv (g : GSem nD τ sig) (_ : Unit) : ℕ := slotLevel (slotOf g.2)

theorem L_of_ne (g : GSem nD τ sig) (h : g.1.2 ≠ .tc) : L g = ∅ := if_neg h
theorem L_tc (c : Dev nD) (s : SemLoc sig) : L ((c : Thread nD τ), s) = {()} := if_pos rfl
theorem lv_dma (c : Dev nD) (j : Fin 66) : lv (dcell c j) () = level j := by unfold lv; rw [slotOf_csem (some j)]; rfl
theorem lv_bar (c : Dev nD) : lv (barCell c) () = 1 := by unfold lv; rw [slotOf_csem none]; rfl
theorem lv_local (c : Dev nD) (i : Fin 4) : lv ((c : Thread nD τ), .dma (cs i)) () = 0 := by unfold lv; rw [slotOf_local]; rfl

/-- Everything owed is at a level above `n`. -/
def Above (n : ℕ) (O : CellTallies nD τ sig Unit) : Prop := ∀ (g : GSem nD τ sig) (u : Unit), 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (ck : Dev nD × Slot) (a : ℕ) (h : n < lv (kcell ck) ()) : Above n (tallyAt (kcell ck) () a) := fun g u hg => by
  rw [tallyAt_apply] at hg
  by_cases h' : g = kcell ck ∧ u = ()
  · rw [h'.1]; exact ⟨rfl, h⟩
  · rw [if_neg h'] at hg; exact absurd hg (Nat.lt_irrefl 0)
theorem above_due {n : ℕ} (e : Dev nD) (j : Fin 66) (h : n < level j) : Above n (due e j) :=
  above_tally (e, some j) N (by rw [lv_dma]; exact h)
theorem above_debt {n : ℕ} {f : Fin 8 → CellTallies nD τ sig Unit} {R : CellTallies nD τ sig Unit} (hf : ∀ k, Above n (f k)) (hR : Above n R) :
    ∀ l : List (Fin 8), Above n (debt f R l)
  | [] => hR
  | k :: l => above_add (above_debt hf hR l) (hf k)

theorem level_at8 (k : Fin 8) : level (at8 1 k) = 2 ∧ level (at8 3 k) = 3 ∧ level (at8 5 k) = 3 ∧ level (at8 7 k) = 4 := by revert k; decide
theorem level_sent (k : Fin 8) : level (at8 0 k) = 0 ∧ level (at8 2 k) = 0 ∧ level (at8 4 k) = 0 ∧ level (at8 6 k) = 0 := by revert k; decide

theorem above_OC (c : Dev nD) : Above 4 (OC c) := above_due _ _ (by decide)
theorem Above.mono {n n' : ℕ} {O : CellTallies nD τ sig Unit} (h : Above n O) (hn : n' ≤ n) : Above n' O :=
  fun g u hg => ⟨(h g u hg).1, lt_of_le_of_lt hn (h g u hg).2⟩
theorem above_OF (c : Dev nD) (l : List (Fin 8)) : Above 3 (OF c l) :=
  above_debt (fun k => above_due _ _ (by rw [(level_at8 k).2.2.2]; decide)) ((above_OC c).mono (by decide)) l
theorem above_OA (c : Dev nD) (l : List (Fin 8)) : Above 2 (OA c l) :=
  above_debt (fun k => above_add (above_due _ _ (by rw [(level_at8 k).2.2.1]; decide)) (above_due _ _ (by rw [(level_at8 k).2.1]; decide)))
    ((above_OF c first7).mono (by decide)) l
theorem above_OP (c : Dev nD) (l : List (Fin 8)) : Above 1 (OP c l) :=
  above_debt (fun k => above_due _ _ (by rw [(level_at8 k).1]; decide)) ((above_OA c all8).mono (by decide)) l
theorem above_O₀ (c : Dev nD) : Above 0 (O₀ c) :=
  above_add (above_add ((above_OP c all8).mono (by decide)) (above_tally (xn c, none) 1 (by rw [lv_bar]; decide)))
    (above_tally (yn c, none) 1 (by rw [lv_bar]; decide))

omit [FloatOps F] in
/-- A device may wait on a semaphore that lies no higher than `n` while owing only above `n`. -/
theorem mayWait (c : Dev nD) (s : SemLoc sig) (n : ℕ) (O : CellTallies nD τ sig Unit) (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by have := (hO g u hg).1; unfold L; rw [if_pos this]; exact Finset.mem_singleton_self _)
    (fun p hp => by rw [Finset.mem_singleton.mp hp]; exact hs)
    (fun g u hg => (hO g u hg).2)

end Cert.KernelIdealRun

end
-- ==== Proof.PiecesIdeal.lean ====
/-
# What the pieces of the body do: waits and sends

Every piece is given a statement of the form "from `P` to `Q`, whatever follows". This file has the rules for putting
pieces together and the two kinds of piece that talk to other devices.
-/
module

public import proofs.«01_k».proof.Proof.ScheduleIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
abbrev 𝒱₀ : Variants := Variants.none

theorem credit_out (o : Fin 2 → Nat) (h : Fits o) : (outAt o h).view.dmaCredit = N := by unfold N; rfl
theorem credit_part (o : Fin 3 → Nat) (h : FitsP o) : (partAt o h).view.dmaCredit = N := by unfold N; rfl

variable (m : (ℓ : Loc nD τ sig) → Buf (Elt F) ℓ) (K : Dev nD × Slot → ℕ)

/-! ## What every device knows, and what a piece of the body does -/

/-- Every cell's invariant, under the names `K`, and that every cell is open. -/
def records : sProp 𝕄 :=
  iprop((bigSep Finset.univ fun ck : Dev nD × Slot => cellInv ER (Rd m) (K ck) (kcell ck))
    ∗ bigSep Finset.univ fun ck : Dev nD × Slot => reached ER (kcell ck) 0)
instance records_persistent : BI.Persistent (records m K) := by unfold records; infer_instance
/-- With the levels. -/
def known : sProp 𝕄 := iprop(records m K ∗ levAts L lv)
instance known_persistent : BI.Persistent (known m K) := by unfold known; infer_instance

theorem inv_at (ck : Dev nD × Slot) :
    (bigSep Finset.univ fun ck : Dev nD × Slot => (cellInv ER (Rd m) (K ck) (kcell ck) : sProp 𝕄)) ⊢ cellInv ER (Rd m) (K ck) (kcell ck) :=
  bigSep_elim (Finset.mem_univ ck)
omit [FloatOps F] in
theorem reached_at (ck : Dev nD × Slot) :
    (bigSep Finset.univ fun ck : Dev nD × Slot => (reached ER (kcell ck) 0 : sProp 𝕄)) ⊢ reached ER (kcell ck) 0 :=
  bigSep_elim (Finset.mem_univ ck)

theorem known_inv (ck : Dev nD × Slot) : known m K ⊢ cellInv ER (Rd m) (K ck) (kcell ck) := by
  unfold known records
  iintro ⟨⟨#HI, -⟩, -⟩
  iapply (inv_at m K ck); iexact HI
theorem known_reached (ck : Dev nD × Slot) : known m K ⊢ reached ER (kcell ck) 0 := by
  unfold known records
  iintro ⟨⟨-, #HR⟩, -⟩
  iapply (reached_at (F := F) ck); iexact HR
theorem known_levels : known m K ⊢ levAts L lv := by
  unfold known; iintro ⟨-, #H⟩; iexact H

/-- What device `c` owes, whatever waits it has made. -/
def ow (c : Dev nD) (O : CellTallies nD τ sig Unit) : sProp 𝕄 := iprop(∃ W, owes (c : Thread nD τ) O W)

/-- The piece `p`, run on device `c` from `P`, ends with `Q`, whatever follows it. -/
def Spec (c : Dev nD) (P : sProp 𝕄) (p : Piece F) (Q : sProp 𝕄) : Prop :=
  ∀ (rest : PUnit → Piece F) (Kt : PUnit → sProp 𝕄),
    iprop(known m K ∗ P) ⊢ iprop((Q -∗ wp frame (wpE (defs₀ (F := F)) 𝒱₀ (c : Thread nD τ) none) Set.univ (rest ⟨⟩) Kt)
      -∗ wp frame (wpE (defs₀ (F := F)) 𝒱₀ (c : Thread nD τ) none) Set.univ (p >>= rest) Kt)

variable {m K}

theorem Spec.conseq {c : Dev nD} {P P' Q Q' : sProp 𝕄} {p : Piece F} (h : Spec m K c P p Q) (hP : P' ⊢ P) (hQ : Q ⊢ Q') : Spec m K c P' p Q' := by
  intro rest Kt
  iintro ⟨#Hk, HP⟩ HQ
  iapply (h rest Kt) $$ [HP]
  · isplitr; · iexact Hk
    iapply hP; iexact HP
  iintro H
  iapply HQ; iapply hQ; iexact H

theorem Spec.frame {c : Dev nD} {P Q : sProp 𝕄} {p : Piece F} (h : Spec m K c P p Q) (R : sProp 𝕄) : Spec m K c iprop(P ∗ R) p iprop(Q ∗ R) := by
  intro rest Kt
  iintro ⟨#Hk, HP, HR⟩ HQ
  iapply (h rest Kt) $$ [HP]
  · isplitr; · iexact Hk
    iexact HP
  iintro H
  iapply HQ
  isplitl [H] <;> iassumption

theorem Spec.bind {c : Dev nD} {P Q R : sProp 𝕄} {p q : Piece F} (h : Spec m K c P p Q) (h' : Spec m K c Q q R) :
    Spec m K c P (p >>= fun _ => q) R := by
  intro rest Kt
  rw [show ((p >>= fun _ => q) >>= rest : Piece F) = p >>= (fun _ => q >>= rest) from Prog.bind_assoc p (fun _ => q) rest]
  iintro ⟨#Hk, HP⟩ HQ
  iapply (h _ Kt) $$ [HP]
  · isplitr; · iexact Hk
    iexact HP
  iintro H
  iapply (h' rest Kt) $$ [H]
  · isplitr; · iexact Hk
    iexact H
  iexact HQ

theorem Spec.skip {c : Dev nD} (P : sProp 𝕄) : Spec m K c P (pure ⟨⟩) P := by
  intro rest Kt
  iintro ⟨-, HP⟩ HQ
  iapply HQ; iexact HP

/-- Running the first of two pieces. -/
theorem spec_first {c : Dev nD} {P Q : sProp 𝕄} {p : Piece F} (h : Spec m K c P p Q) (q : Piece F) (rest : PUnit → Piece F) (Kt : PUnit → sProp 𝕄) :
    iprop(known m K ∗ P) ⊢ iprop((Q -∗ wp frame (wpE (defs₀ (F := F)) 𝒱₀ (c : Thread nD τ) none) Set.univ (q >>= rest) Kt)
      -∗ wp frame (wpE (defs₀ (F := F)) 𝒱₀ (c : Thread nD τ) none) Set.univ ((p >>= fun _ => q) >>= rest) Kt) := by
  rw [show ((p >>= fun _ => q) >>= rest : Piece F) = p >>= (fun _ => q >>= rest) from Prog.bind_assoc p (fun _ => q) rest]
  exact h (fun _ => q >>= rest) Kt

/-- Pieces in sequence, one per chunk: each takes its chunk's `A` to its `B`, and `I` says how matters stand with the
    chunks still to come. -/
theorem Spec.run {c : Dev nD} {A B : Fin 8 → sProp 𝕄} {I : List (Fin 8) → sProp 𝕄} {f : Fin 8 → Piece F} (p : Fin 8 → Prop)
    (h : ∀ k l, p k → Spec m K c iprop(A k ∗ I (k :: l)) (f k) iprop(B k ∗ I l)) :
    ∀ l : List (Fin 8), (∀ k ∈ l, p k) → Spec m K c iprop(each A l ∗ I l) (run (l.map f)) iprop(each B l ∗ I [])
  | [], _ => Spec.skip _
  | k :: l, hp => by
    refine (((h k l (hp k List.mem_cons_self)).frame (each A l)).conseq ?_ ?_).bind (((Spec.run p h l fun i hi => hp i (List.mem_cons_of_mem _ hi)).frame (B k)).conseq (Entails.refl _) ?_)
    · rw [each_cons]; iintro ⟨⟨Ha, Hl⟩, Ho⟩
      isplitr [Hl]
      · isplitl [Ha] <;> iassumption
      · iexact Hl
    · iintro ⟨⟨Hb, Ho⟩, Hl⟩
      isplitr [Hb]
      · isplitl [Hl] <;> iassumption
      · iexact Hb
    · rw [each_cons]; iintro ⟨⟨Hl, Ho⟩, Hb⟩
      isplitr [Ho]
      · isplitl [Hb] <;> iassumption
      · iexact Ho

/-! ## Waiting -/

/-- Device `c`'s place on remote semaphore `j` before its wait, with the credit to wait by. -/
def await (c : Dev nD) (j : Fin 66) : sProp 𝕄 := iprop(atPos ER (dcell c j) 0 ∅ 0 ∗ cred (tallyAt (dcell c j) () N))
/-- The semaphore back at zero. -/
def still (c : Dev nD) (j : Fin 66) : sProp 𝕄 := semVal (dcell c j) 0

/-- A wait on a remote semaphore returns what its completion hands over. -/
theorem spec_wait (c : Dev nD) (j : Fin 66) (hl : live j = true) (n : ℕ) (hn : level j ≤ n) (O : CellTallies nD τ sig Unit) (hO : Above n O)
    {sp sp' : Space} {s s' : Shape} {e e' : EltTy} (src : Memref sig .tc sp' s' e') (dst : Memref sig .tc sp s e)
    (h1 : src.view.WordExact) (h2 : dst.view.WordExact) (hN : dst.view.dmaCredit = N) :
    Spec m K c iprop(await c j ∗ ow c O) (Prog.lift (.waitDma2 (sm j) src dst h1 h2)) iprop((pay m c j ∗ still c j) ∗ ow c O) := by
  intro rest Kt
  unfold await ow still
  iintro ⟨#Hk, ⟨Hat, Hc⟩, ⟨%W, HO⟩⟩ HQ
  iapply (Rounds.wp_wait_rest_token 𝒱₀ ER (Rd m) (c : Thread nD τ) none (κ := K (c, some j))
      (wpE_waitDma2_eq 𝒱₀ (c : Thread nD τ) none Set.univ) (Set.mem_univ _) () (O := O) (W := W) (R := 0) (m := 0) (T := ∅)
      (by rw [Nat.zero_add, expect_live m c j hl]; exact hN)) $$ [Hat Hc HO]
  · isplitr; · iapply (known_inv m K (c, some j)); iexact Hk
    isplitl [Hc]; · rw [hN]; iexact Hc
    isplitl [HO]; · iexact HO
    isplitr; · iapply (mayWait c (.dma (sm j)) n O ((lv_dma c j).trans_le hn) hO); iapply (known_levels m K); iexact Hk
    iexact Hat
  iintro ⟨HO, Hat, -, Hpay⟩
  ihave Hp := (Entails.of_eq (rest_live m c j hl)) $$ Hpay
  imod (Rounds.cell_close ER (Rd m) (Set.mem_univ (K (c, some j))) (fun h => h) (R := 0 + 1) (duties_later m (dcell c j))) $$ [Hat] with Hz
  · isplitr; · iapply (known_inv m K (c, some j)); iexact Hk
    iexact Hat
  iapply HQ
  isplitr [HO]
  · isplitl [Hp] <;> iassumption
  · iexists _; iexact HO

theorem spec_waitPart (c : Dev nD) (j : Fin 66) (hl : live j = true) (n : ℕ) (hn : level j ≤ n) (O : CellTallies nD τ sig Unit) (hO : Above n O)
    (oS hS oD hD) : Spec m K c iprop(await c j ∗ ow c O) (waitPart oS hS oD hD j) iprop((pay m c j ∗ still c j) ∗ ow c O) :=
  spec_wait c j hl n hn O hO _ _ _ _ (credit_out oD hD)
theorem spec_waitPartSent (c : Dev nD) (j : Fin 66) (hl : live j = true) (n : ℕ) (hn : level j ≤ n) (O : CellTallies nD τ sig Unit) (hO : Above n O)
    (oS hS oD hD) : Spec m K c iprop(await c j ∗ ow c O) (waitPartSent oS hS oD hD j) iprop((pay m c j ∗ still c j) ∗ ow c O) :=
  spec_wait c j hl n hn O hO _ _ _ _ (credit_part oS hS)
theorem spec_waitOut (c : Dev nD) (j : Fin 66) (hl : live j = true) (n : ℕ) (hn : level j ≤ n) (O : CellTallies nD τ sig Unit) (hO : Above n O)
    (o h) : Spec m K c iprop(await c j ∗ ow c O) (waitOut o h j) iprop((pay m c j ∗ still c j) ∗ ow c O) :=
  spec_wait c j hl n hn O hO _ _ _ _ (credit_out o h)

/-! ## Sending -/

/-- The right to complete semaphore `j` of device `e`. -/
def token (e : Dev nD) (j : Fin 66) : sProp 𝕄 := dutyTok ER (dcell e j) 0 false
/-- What a send leaves behind: the credit to wait for its departure. -/
def sent (c : Dev nD) (j : Fin 66) : sProp 𝕄 := cred (tallyAt (dcell c j) () N)

/-- Sending block `(q, k)` of the result at share `s` to device `d`. -/
theorem spec_sendOut (c d q : Dev nD) (k : Fin 8) (s : PosShare TreeShare) (js jr : Fin 66) (hs : live js = true) (hr : live jr = true)
    (fd : S4096x4096.Idx → Elt F .f32) (O : CellTallies nD τ sig Unit)
    (hps : pay m c js = oPts c q k s (doneV m)) (hpr : pay m d jr = oPts d q k fullShare (doneV m)) :
    Spec m K c iprop((oPts c q k s (doneV m) ∗ oPts d q k fullShare fd ∗ token c js ∗ token d jr) ∗ ow c (O + due d jr))
      (sendOut (off q k) (fits q k) d js jr) iprop(sent c js ∗ ow c O) := by
  intro rest Kt
  unfold token sent ow sendOut
  iintro ⟨#Hk, ⟨Hs, Hd, Hts, Htr⟩, ⟨%W, HO⟩⟩ HQ
  iapply (Rounds.wp_send_pointsTo 𝒱₀ ER (Rd m) (c : Thread nD τ) none (κ₁ := K (c, some js)) (κ₂ := K (d, some jr))
    (src := outM q k) (dst := outM q k) (c' := (d : Thread nD τ)) (sS := .dma (sm js)) (sem := .dma (sm jr))
    (r₁ := 0) (r₂ := 0) (d₁ := false) (d₂ := false) (fs := doneV m) (fd := fd) (q := s)
    (by rw [duties_live m c js hs]; exact Finset.mem_singleton_self _) (by rw [duties_live m d jr hr]; exact Finset.mem_singleton_self _)
    () () N (credit_out _ _) (amount_dma m c js false) (amount_dma m d jr false) O (O₀ := O + due d jr) rfl (W := W)
    (by rw [payload_dma, hps]; unfold oPts; exact Entails.refl _)
    (by
      rw [payload_dma, hpr, show (outAt (off q k) (fits q k)).view.read (Elt F) (doneV m) = doneB m q k from read_stitch _ q k]
      exact Entails.of_eq (oPts_written d q k fullShare (doneB m) fd))) $$ [Hs Hd Hts Htr HO]
  · isplitr; · iapply (known_inv m K (c, some js)); iexact Hk
    isplitr; · iapply (known_inv m K (d, some jr)); iexact Hk
    isplitl [Hs]; · unfold oPts; iexact Hs
    isplitl [Hd]; · unfold oPts; iexact Hd
    isplitl [HO]; · iexact HO
    isplitl [Hts]; · iexact Hts
    isplitr; · iapply (known_reached m K (c, some js)); iexact Hk
    isplitl [Htr]; · iexact Htr
    iapply (known_reached m K (d, some jr)); iexact Hk
  iintro ⟨Hc, HO⟩
  iapply HQ
  isplitl [Hc]; · iexact Hc
  iexists W; iexact HO

/-- Sending block `(yn c, k)` of the partial sums to the `y` neighbour. -/
theorem spec_sendPart (c : Dev nD) (k : Fin 8) (O : CellTallies nD τ sig Unit) :
    Spec m K c iprop((pPts c (yn c) k (partV m c) ∗ raw m (yn c) (yn c) k ∗ token c (at8 0 k) ∗ token (yn c) (at8 1 k)) ∗ ow c (O + due (yn c) (at8 1 k)))
      (sendPart (offP (yn c) k) (fitsP (yn c) k) (off (yn c) k) (fits (yn c) k) (yn c) (at8 0 k) (at8 1 k)) iprop(sent c (at8 0 k) ∗ ow c O) := by
  have hs : live (at8 0 k) = true := by revert k; decide
  have hr : live (at8 1 k) = true := by revert k; decide
  intro rest Kt
  unfold token sent ow sendPart raw
  iintro ⟨#Hk, ⟨Hs, Hd, Hts, Htr⟩, ⟨%W, HO⟩⟩ HQ
  iapply (Rounds.wp_send_pointsTo 𝒱₀ ER (Rd m) (c : Thread nD τ) none (κ₁ := K (c, some (at8 0 k))) (κ₂ := K (yn c, some (at8 1 k)))
    (src := partM (yn c) k) (dst := outM (yn c) k) (c' := (yn c : Thread nD τ)) (sS := .dma (sm (at8 0 k))) (sem := .dma (sm (at8 1 k)))
    (r₁ := 0) (r₂ := 0) (d₁ := false) (d₂ := false) (fs := partV m c) (fd := outV m (yn c)) (q := fullShare)
    (by rw [duties_live m c _ hs]; exact Finset.mem_singleton_self _) (by rw [duties_live m (yn c) _ hr]; exact Finset.mem_singleton_self _)
    () () N (credit_out _ _) (amount_dma m c _ false) (amount_dma m (yn c) _ false) O (O₀ := O + due (yn c) (at8 1 k)) rfl (W := W)
    (by rw [payload_dma, pay_at8]; unfold fam pPts; exact Entails.refl _)
    (by
      rw [payload_dma, pay_at8]; unfold fam sentV; rw [yn_yn]
      exact Entails.of_eq (oPts_written (yn c) (yn c) k fullShare (partB m c) (outV m (yn c))))) $$ [Hs Hd Hts Htr HO]
  · isplitr; · iapply (known_inv m K (c, some (at8 0 k))); iexact Hk
    isplitr; · iapply (known_inv m K (yn c, some (at8 1 k))); iexact Hk
    isplitl [Hs]; · unfold pPts; iexact Hs
    isplitl [Hd]; · unfold oPts; iexact Hd
    isplitl [HO]; · iexact HO
    isplitl [Hts]; · iexact Hts
    isplitr; · iapply (known_reached m K (c, some (at8 0 k))); iexact Hk
    isplitl [Htr]; · iexact Htr
    iapply (known_reached m K (yn c, some (at8 1 k))); iexact Hk
  iintro ⟨Hc, HO⟩
  iapply HQ
  isplitl [Hc]; · iexact Hc
  iexists W; iexact HO

end Cert.KernelIdealRun

end
-- ==== Proof.FinishIdeal.lean ====
module

public import proofs.«01_k».proof.Proof.PiecesIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable {m : (ℓ : Loc nD τ sig) → Buf (Elt F) ℓ} {K : Dev nD × Slot → ℕ}

/-! ## The device's own copies -/

/-- A block-sized memref held whole. -/
def held {sp : Space} (c : Dev nD) (b : Memref sig .tc sp S128x4096 .f32) (f : Buf (Elt F) (b.view.loc (c : Thread nD τ))) : sProp 𝕄 :=
  b.view.loc (c : Thread nD τ) ↦[b.view.set]{fullShare} f
/-- Own semaphore `i` at zero. -/
def idle (c : Dev nD) (i : Fin 4) : sProp 𝕄 := semVal ((c : Thread nD τ), .dma (cs i)) 0
/-- A copy under way: at its wait it returns the destination rewritten and the source. -/
def copying {sp sp' : Space} (c : Dev nD) (i : Fin 4) (src : Memref sig .tc sp S128x4096 .f32) (fs : Buf (Elt F) (src.view.loc (c : Thread nD τ)))
    (dst : Memref sig .tc sp' S128x4096 .f32) (fd : Buf (Elt F) (dst.view.loc (c : Thread nD τ))) : sProp 𝕄 :=
  Transfers.Flight EC (c : Thread nD τ) (.dma (cs i)) () (dst.view.dmaCredit)
    iprop(held c dst (dst.view.write (Elt F) fd (src.view.read (Elt F) fs) Finset.univ) ∗ held c src fs)

/-- Starting a copy. -/
theorem spec_copy {sp sp' : Space} (c : Dev nD) (i : Fin 4) (src : Memref sig .tc sp S128x4096 .f32) (fs : Buf (Elt F) (src.view.loc (c : Thread nD τ)))
    (dst : Memref sig .tc sp' S128x4096 .f32) (fd : Buf (Elt F) (dst.view.loc (c : Thread nD τ))) (h1 : src.view.WordExact) (h2 : dst.view.WordExact)
    (h3 : DmaTarget.Typed (nD := nD) (τ := τ) (p := .tc) sp (.dma (cs i)) (.here dst)) :
    Spec m K c iprop(held c src fs ∗ held c dst fd ∗ idle c i) (Prog.lift (.enqueueDma src (.here dst) (.dma (cs i)) h1 h2 h3)) (copying c i src fs dst fd) := by
  intro rest Kt
  unfold held idle copying
  iintro ⟨-, Hs, Hd, Hv⟩ HQ
  iapply (Transfers.wp_dmaLocal EC 𝒱₀ (c : Thread nD τ) none (fs := fs) (fd := fd) (q := fullShare) (sm := .dma (cs i)) () dst.view.dmaCredit rfl
      (View.dmaCredit_pos _ (by decide)) (Finset.Subset.refl _)) $$ [Hs Hd Hv]
  · isplitl [Hs]; · iexact Hs
    isplitl [Hd]; · iexact Hd
    iexact Hv
  iintro H
  iapply HQ; iexact H

/-- Waiting for it, while owing nothing at the bottom level. -/
theorem spec_copied {sp sp' : Space} (c : Dev nD) (i : Fin 4) (src : Memref sig .tc sp S128x4096 .f32) (fs : Buf (Elt F) (src.view.loc (c : Thread nD τ)))
    (dst : Memref sig .tc sp' S128x4096 .f32) (fd : Buf (Elt F) (dst.view.loc (c : Thread nD τ)))
    (h1 : src.view.WordExact) (h2 : dst.view.WordExact) (O : CellTallies nD τ sig Unit) (hO : Above 0 O) :
    Spec m K c iprop(copying c i src fs dst fd ∗ ow c O) (Prog.lift (.waitDma2 (cs i) src dst h1 h2))
      iprop((held c dst (dst.view.write (Elt F) fd (src.view.read (Elt F) fs) Finset.univ) ∗ held c src fs) ∗ idle c i ∗ ow c O) := by
  intro rest Kt
  unfold copying ow
  iintro ⟨#Hk, HF, ⟨%W, HO⟩⟩ HQ
  iapply (Transfers.wp_waitLocalO EC 𝒱₀ (c : Thread nD τ) none () rfl (O := O) (W := W)) $$ [HF HO]
  · isplitl [HF]; · iexact HF
    isplitl [HO]; · iexact HO
    iapply (mayWait c (.dma (cs i)) 0 O (lv_local c i).le hO); iapply (known_levels m K); iexact Hk
  iintro ⟨HD, Hv, HO⟩
  iapply HQ
  isplitl [HD]; · iexact HD
  isplitl [Hv]; · unfold idle; iexact Hv
  iexists _; iexact HO

/-! ## The scratch buffers -/

/-- A scratch buffer just copied into holds what was copied. -/
theorem held_bufP (c : Dev nD) (f w : S128x4096.Idx → Elt F .f32) :
    held (F := F) c bufP (bufP.view.write (Elt F) f w Finset.univ) = held c bufP w := congrArg _ (View.write_whole_univ _ _ _)
theorem held_bufS (c : Dev nD) (f w : S128x4096.Idx → Elt F .f32) :
    held (F := F) c bufS (bufS.view.write (Elt F) f w Finset.univ) = held c bufS w := congrArg _ (View.write_whole_univ _ _ _)
theorem held_bufR (c : Dev nD) (f w : S128x4096.Idx → Elt F .f32) :
    held (F := F) c bufR (bufR.view.write (Elt F) f w Finset.univ) = held c bufR w := congrArg _ (View.write_whole_univ _ _ _)

/-- The scale vector in its staging buffer. -/
def gPts (c : Dev nD) : sProp 𝕄 := ((c : Thread nD τ).loc cc0_stg0_0) ↦{fullShare} gamV m c

theorem hz2 : (![0, 0] : Fin 2 → Nat) = fun _ => 0 := funext fun a => by fin_cases a <;> rfl
theorem hz1 : (![0] : Fin 1 → Nat) = fun _ => 0 := funext fun a => by fin_cases a; rfl
theorem read_bufP (f : S128x4096.Idx → Elt F .f32) : bufP.view.readAt (Elt F) allRows.toLoadRect f = f := Memref.readAt_unit_zero (Elt F) cc0_scratch0 hz2 _ f
theorem read_bufS (f : S128x4096.Idx → Elt F .f32) : bufS.view.readAt (Elt F) allRows.toLoadRect f = f := Memref.readAt_unit_zero (Elt F) cc0_scratch1 hz2 _ f
theorem read_bufR (f : S128x4096.Idx → Elt F .f32) : bufR.view.readAt (Elt F) allRows.toLoadRect f = f := Memref.readAt_unit_zero (Elt F) cc0_scratch2 hz2 _ f
theorem read_gM (f : S4096.Idx → Elt F .f32) : gM.view.readAt (Elt F) allCols.toLoadRect f = f := Memref.readAt_unit_zero (Elt F) cc0_stg0_0 hz1 _ f
theorem write_bufO (f w : S128x4096.Idx → Elt F .f32) :
    (bufO.access allRows : View sig .tc _ _ _).write (Elt F) f w Finset.univ = w := Memref.write_access_unit_zero_univ (Elt F) cc0_scratch3 hz2 _ f w

/-- Normalising the rows in scratch. -/
theorem spec_normalise (c : Dev nD) (p s r o : S128x4096.Idx → Elt F .f32) :
    Spec m K c iprop(held c bufP p ∗ held c bufS s ∗ held c bufR r ∗ gPts (m := m) c ∗ held c bufO o) normalise
      iprop(held c bufP p ∗ held c bufS s ∗ held c bufR r ∗ gPts (m := m) c ∗ held c bufO (k0_pay1 p s r (gamV m c))) := by
  intro rest Kt
  unfold normalise held gPts
  simp only [Prog.lift, Prog.bind_op, Prog.bind_ret]
  iintro ⟨-, Hp, Hs, Hr, Hg, Ho⟩ HQ
  iapply (wp_load 𝒱₀ (c : Thread nD τ) none Set.univ (m := bufP) (View.setOn_subset_set _ _)) $$ Hp; iintro Hp
  rw [read_bufP]
  iapply (wp_load 𝒱₀ (c : Thread nD τ) none Set.univ (m := bufS) (View.setOn_subset_set _ _)) $$ Hs; iintro Hs
  rw [read_bufS]
  iapply (wp_load 𝒱₀ (c : Thread nD τ) none Set.univ (m := bufR) (View.setOn_subset_set _ _)) $$ Hr; iintro Hr
  rw [read_bufR]
  iapply (wp_load 𝒱₀ (c : Thread nD τ) none Set.univ (m := gM) (Finset.subset_univ _)) $$ Hg; iintro Hg
  rw [read_gM]
  iapply (wp_load 𝒱₀ (c : Thread nD τ) none Set.univ (m := bufO) (View.setOn_subset_set _ _)) $$ Ho; iintro Ho
  iapply (wp_store 𝒱₀ (c : Thread nD τ) none Set.univ (m := bufO) (r := allRows) (Mk := Finset.univ)
    (by rw [View.set_whole]; exact Finset.subset_univ _)) $$ Ho; iintro Ho
  rw [write_bufO]
  iapply HQ
  isplitl [Hp]; · iexact Hp
  isplitl [Hs]; · iexact Hs
  isplitl [Hr]; · iexact Hr
  isplitl [Hg]; · iexact Hg
  iexact Ho

/-! ## One chunk of the device's own quarter -/

/-- The four scratch buffers, whatever they hold, the four own semaphores and the scale vector. -/
def shop (c : Dev nD) : sProp 𝕄 :=
  iprop((∃ f : S128x4096.Idx → Elt F .f32, held c bufP f) ∗ (∃ f : S128x4096.Idx → Elt F .f32, held c bufS f)
    ∗ (∃ f : S128x4096.Idx → Elt F .f32, held c bufR f) ∗ (∃ f : S128x4096.Idx → Elt F .f32, held c bufO f)
    ∗ (idle c 0 ∗ idle c 1 ∗ idle c 2 ∗ idle c 3) ∗ gPts (m := m) c)

theorem fetchOwn_at (c : Dev nD) (k : Fin 8) :
    fetchOwn (F := F) (k0_off3 c (wd k)) (k0_off3_inb c k) (k0_off4 c (wd k)) (k0_off4_inb c k) = fetchOwn (offP c k) (fitsP c k) (off c k) (fits c k) := by
  have h : ∀ o o' (h : FitsP o) (h' : FitsP o') p p' (g : Fits p) (g' : Fits p'), o = o' → p = p' → fetchOwn (F := F) o h p g = fetchOwn o' h' p' g' :=
    fun _ _ _ _ _ _ _ _ e e' => by subst e; subst e'; rfl
  exact h _ _ _ _ _ _ _ _ (off3_eq c k) (off4_eq c k)
theorem fetchPeer_at (c : Dev nD) (k : Fin 8) :
    fetchPeer (F := F) (k0_off3 c (wd k)) (k0_off3_inb c k) (k0_off4 c (wd k)) (k0_off4_inb c k) = fetchPeer (offP c k) (fitsP c k) (off c k) (fits c k) := by
  have h : ∀ o o' (h : FitsP o) (h' : FitsP o') p p' (g : Fits p) (g' : Fits p'), o = o' → p = p' → fetchPeer (F := F) o h p g = fetchPeer o' h' p' g' :=
    fun _ _ _ _ _ _ _ _ e e' => by subst e; subst e'; rfl
  exact h _ _ _ _ _ _ _ _ (off3_eq c k) (off4_eq c k)
theorem writeBack_at (c : Dev nD) (k : Fin 8) : writeBack (F := F) (k0_off4 c (wd k)) (k0_off4_inb c k) = writeBack (off c k) (fits c k) := by
  have h : ∀ o o' (h : Fits o) (h' : Fits o'), o = o' → writeBack (F := F) o h = writeBack o' h' := fun _ _ _ _ e => by subst e; rfl
  exact h _ _ _ _ (off4_eq c k)
theorem sendOut_at {o o' : Fin 2 → Nat} (h : Fits o) (h' : Fits o') {d d' : Dev nD} (js jr : Fin 66) (e : o = o') (e' : d = d') :
    sendOut (F := F) o h d js jr = sendOut o' h' d' js jr := by subst e; subst e'; rfl

/-- The finished block, as the scratch buffers give it. -/
theorem done_eq (c : Dev nD) (k : Fin 8) :
    k0_pay1 ((partM c k).view.read (Elt F) (partV m c)) ((outM c k).view.read (Elt F) (sentV m (yn c))) ((residM c k).view.read (Elt F) (resV m c)) (gamV m c)
      = doneB m c k := by
  unfold doneB sentV; rw [show (outM c k).view.read (Elt F) (stitch (partB m (yn c))) = partB m (yn c) c k from read_stitch _ c k]; rfl

/-- What a chunk needs besides the shop, and what it leaves. -/
def finIn (c : Dev nD) (k : Fin 8) : sProp 𝕄 :=
  iprop(pPts c c k (partV m c) ∗ rPts c c k (resV m c) ∗ await c (at8 1 k) ∗ raw m (yn c) c k ∗ raw m (xn c) c k
    ∗ (token c (at8 2 k) ∗ token (yn c) (at8 3 k)) ∗ (token c (at8 4 k) ∗ token (xn c) (at8 5 k)))
def finOut (c : Dev nD) (k : Fin 8) : sProp 𝕄 :=
  iprop(pPts c c k (partV m c) ∗ rPts c c k (resV m c) ∗ still c (at8 1 k) ∗ sent c (at8 2 k) ∗ sent c (at8 4 k))

theorem spec_fetchOwn (c : Dev nD) (k : Fin 8) (fP fR : S128x4096.Idx → Elt F .f32) :
    Spec m K c iprop((held c (partM c k) (partV m c) ∗ held c bufP fP ∗ idle c 0) ∗ (held c (residM c k) (resV m c) ∗ held c bufR fR ∗ idle c 2))
      (fetchOwn (offP c k) (fitsP c k) (off c k) (fits c k))
      iprop(copying c 0 (partM c k) (partV m c) bufP fP ∗ copying c 2 (residM c k) (resV m c) bufR fR) := by
  intro rest Kt
  unfold fetchOwn
  iintro ⟨#Hk, H0, H2⟩ HQ
  iapply (spec_first (spec_copy c 0 (partM c k) (partV m c) bufP fP _ _ _) _ rest Kt) $$ [H0]
  · isplitr; · iexact Hk
    iexact H0
  iintro H0
  iapply (spec_copy c 2 (residM c k) (resV m c) bufR fR _ _ _ rest Kt) $$ [H2]
  · isplitr; · iexact Hk
    iexact H2
  iintro H2
  iapply HQ
  isplitl [H0] <;> iassumption

theorem spec_fetchPeer (c : Dev nD) (k : Fin 8) (fP fR fS : S128x4096.Idx → Elt F .f32) (O : CellTallies nD τ sig Unit) (hO : Above 0 O) :
    Spec m K c iprop((copying c 0 (partM c k) (partV m c) bufP fP ∗ copying c 2 (residM c k) (resV m c) bufR fR
        ∗ (held c (outM c k) (sentV m (yn c)) ∗ held c bufS fS ∗ idle c 1)) ∗ ow c O)
      (fetchPeer (offP c k) (fitsP c k) (off c k) (fits c k))
      iprop(((held c bufP ((partM c k).view.read (Elt F) (partV m c)) ∗ held c (partM c k) (partV m c)) ∗ idle c 0)
        ∗ ((held c bufR ((residM c k).view.read (Elt F) (resV m c)) ∗ held c (residM c k) (resV m c)) ∗ idle c 2)
        ∗ ((held c bufS ((outM c k).view.read (Elt F) (sentV m (yn c))) ∗ held c (outM c k) (sentV m (yn c))) ∗ idle c 1) ∗ ow c O) := by
  intro rest Kt
  unfold fetchPeer
  iintro ⟨#Hk, ⟨H0, H2, H1⟩, HO⟩ HQ
  iapply (spec_first (spec_copy c 1 (outM c k) (sentV m (yn c)) bufS fS _ _ _) _ rest Kt) $$ [H1]
  · isplitr; · iexact Hk
    iexact H1
  iintro H1
  iapply (spec_first (spec_copied c 0 (partM c k) (partV m c) bufP fP _ _ O hO) _ rest Kt) $$ [H0 HO]
  · isplitr; · iexact Hk
    isplitl [H0] <;> iassumption
  rw [held_bufP]
  iintro ⟨H0, H0', HO⟩
  iapply (spec_first (spec_copied c 2 (residM c k) (resV m c) bufR fR _ _ O hO) _ rest Kt) $$ [H2 HO]
  · isplitr; · iexact Hk
    isplitl [H2] <;> iassumption
  rw [held_bufR]
  iintro ⟨H2, H2', HO⟩
  iapply (spec_copied c 1 (outM c k) (sentV m (yn c)) bufS fS _ _ O hO rest Kt) $$ [H1 HO]
  · isplitr; · iexact Hk
    isplitl [H1] <;> iassumption
  rw [held_bufS]
  iintro ⟨H1, H1', HO⟩
  iapply HQ
  isplitl [H0 H0']; · isplitl [H0] <;> iassumption
  isplitl [H2 H2']; · isplitl [H2] <;> iassumption
  isplitl [H1 H1']; · isplitl [H1] <;> iassumption
  iexact HO

theorem spec_writeBack (c : Dev nD) (k : Fin 8) (fd : S4096x4096.Idx → Elt F .f32) (O : CellTallies nD τ sig Unit) (hO : Above 0 O) :
    Spec m K c iprop((held c bufO (doneB m c k) ∗ held c (outM c k) fd ∗ idle c 3) ∗ ow c O) (writeBack (off c k) (fits c k))
      iprop((oPts c c k fullShare (doneV m) ∗ held c bufO (doneB m c k)) ∗ idle c 3 ∗ ow c O) := by
  intro rest Kt
  unfold writeBack
  iintro ⟨#Hk, H, HO⟩ HQ
  iapply (spec_first (spec_copy c 3 bufO (doneB m c k) (outM c k) fd _ _ _) _ rest Kt) $$ [H]
  · isplitr; · iexact Hk
    iexact H
  iintro H
  iapply (spec_copied c 3 bufO (doneB m c k) (outM c k) fd _ _ O hO rest Kt) $$ [H HO]
  · isplitr; · iexact Hk
    isplitl [H] <;> iassumption
  rw [show held c (outM c k) ((outM c k).view.write (Elt F) fd (bufO.view.read (Elt F) (doneB m c k)) Finset.univ) = oPts c c k fullShare (doneV m) from
    oPts_written c c k fullShare (doneB m) fd]
  iintro H
  iapply HQ; iexact H

/-- A chunk is fetched, normalised, written and sent to both neighbours. -/
theorem spec_finish (c : Dev nD) (k : Fin 8) (l : List (Fin 8)) :
    Spec m K c iprop(finIn (m := m) c k ∗ shop (m := m) c ∗ ow c (OA c (k :: l))) (finish c k) iprop(finOut (m := m) c k ∗ shop (m := m) c ∗ ow c (OA c l)) := by
  have h1 : live (at8 1 k) = true := by revert k; decide
  have h2 : live (at8 2 k) = true := by revert k; decide
  have h3 : live (at8 3 k) = true := by revert k; decide
  have h4 : live (at8 4 k) = true := by revert k; decide
  have h5 : live (at8 5 k) = true := by revert k; decide
  have hA := above_OA c (k :: l)
  intro rest Kt
  unfold finish finIn finOut shop
  rw [fetchOwn_at, fetchPeer_at, writeBack_at,
    sendOut_at (k0_off4_inb c k) (fits c k) (at8 2 k) (at8 3 k) (off4_eq c k) (devY_eq c),
    sendOut_at (k0_off4_inb c k) (fits c k) (at8 4 k) (at8 5 k) (off4_eq c k) (devX_eq c)]
  iintro ⟨#Hk, ⟨Hp, Hr, Haw, Hy, Hx, ⟨Ht2, Ht3⟩, Ht4, Ht5⟩, ⟨⟨%fP, HP⟩, ⟨%fS, HS⟩, ⟨%fR, HR⟩, ⟨%fO, HO⟩, ⟨H0, H1, H2, H3⟩, Hg⟩, How⟩ HQ
  iapply (spec_first (spec_fetchOwn c k fP fR) _ rest Kt) $$ [Hp HP H0 Hr HR H2]
  · isplitr; · iexact Hk
    isplitl [Hp HP H0]
    · isplitl [Hp]; · unfold pPts held; iexact Hp
      isplitl [HP] <;> iassumption
    · isplitl [Hr]; · unfold rPts held; iexact Hr
      isplitl [HR] <;> iassumption
  iintro ⟨HP, HR⟩
  iapply (spec_first (spec_waitPart c (at8 1 k) h1 2 (level_at8 k).1.le _ (hA.mono (by decide)) _ _ _ _) _ rest Kt) $$ [Haw How]
  · isplitr; · iexact Hk
    isplitl [Haw] <;> iassumption
  rw [pay_at8]
  iintro ⟨⟨Hb, Hs1⟩, How⟩
  iapply (spec_first (spec_fetchPeer c k fP fR fS _ (hA.mono (by decide))) _ rest Kt) $$ [HP HR Hb HS H1 How]
  · isplitr; · iexact Hk
    isplitr [How]
    · isplitl [HP]; · iexact HP
      isplitl [HR]; · iexact HR
      isplitl [Hb]; · unfold fam oPts held; iexact Hb
      isplitl [HS] <;> iassumption
    · iexact How
  iintro ⟨⟨⟨HP, Hp⟩, H0⟩, ⟨⟨HR, Hr⟩, H2⟩, ⟨⟨HS, Hb⟩, H1⟩, How⟩
  iapply (spec_first (spec_normalise c _ _ _ fO) _ rest Kt) $$ [HP HS HR Hg HO]
  · isplitr; · iexact Hk
    isplitl [HP]; · iexact HP
    isplitl [HS]; · iexact HS
    isplitl [HR]; · iexact HR
    isplitl [Hg]; · iexact Hg
    iexact HO
  rw [done_eq]
  iintro ⟨HP, HS, HR, Hg, HO⟩
  iapply (spec_first (spec_writeBack c k _ _ (hA.mono (by decide))) _ rest Kt) $$ [HO Hb H3 How]
  · isplitr; · iexact Hk
    isplitr [How]
    · isplitl [HO]; · iexact HO
      isplitl [Hb] <;> iassumption
    · iexact How
  iintro ⟨⟨Hb, HO⟩, H3, How⟩
  ihave Hb := (oPts_halves c c k (doneV m)).1 $$ Hb
  icases Hb with ⟨Hbl, Hbr⟩
  ihave How := (Entails.of_eq (congrArg (ow c) (show OA c (k :: l) = (OA c l + due (xn c) (at8 5 k)) + due (yn c) (at8 3 k) from (add_assoc _ _ _).symm))) $$ How
  iapply (spec_first (spec_sendOut c (yn c) c k fullShare.left (at8 2 k) (at8 3 k) h2 h3 (outV m (yn c)) _ (pay_at8 m c 2 k)
    ((pay_at8 m (yn c) 3 k).trans (by unfold fam; rw [yn_yn]))) _ rest Kt) $$ [Hbl Hy Ht2 Ht3 How]
  · isplitr; · iexact Hk
    isplitr [How]
    · isplitl [Hbl]; · iexact Hbl
      isplitl [Hy]; · unfold raw; iexact Hy
      isplitl [Ht2] <;> iassumption
    · iexact How
  iintro ⟨Hs2, How⟩
  iapply (spec_sendOut c (xn c) c k fullShare.right (at8 4 k) (at8 5 k) h4 h5 (outV m (xn c)) _ (pay_at8 m c 4 k)
    ((pay_at8 m (xn c) 5 k).trans (by unfold fam; rw [xn_xn])) rest Kt) $$ [Hbr Hx Ht4 Ht5 How]
  · isplitr; · iexact Hk
    isplitr [How]
    · isplitl [Hbr]; · iexact Hbr
      isplitl [Hx]; · unfold raw; iexact Hx
      isplitl [Ht4] <;> iassumption
    · iexact How
  iintro ⟨Hs4, How⟩
  iapply HQ
  isplitl [Hp Hr Hs1 Hs2 Hs4]
  · isplitl [Hp]; · unfold held pPts; iexact Hp
    isplitl [Hr]; · unfold held rPts; iexact Hr
    isplitl [Hs1]; · iexact Hs1
    isplitl [Hs2] <;> iassumption
  isplitr [How]
  · isplitl [HP]; · iexists _; iexact HP
    isplitl [HS]; · iexists _; iexact HS
    isplitl [HR]; · iexists _; iexact HR
    isplitl [HO]; · iexists _; iexact HO
    isplitr [Hg]
    · isplitl [H0]; · iexact H0
      isplitl [H1]; · iexact H1
      isplitl [H2] <;> iassumption
    · iexact Hg
  · iexact How

end Cert.KernelIdealRun

end
-- ==== Proof.StagesIdeal.lean ====
module

public import proofs.«01_k».proof.Proof.FinishIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable {m : (ℓ : Loc nD τ sig) → Buf (Elt F) ℓ} {K : Dev nD × Slot → ℕ}

/-! ## Several resources per chunk -/

section Zip
variable {M : Type} [URA M]

theorem zip2 (A B : Fin 8 → sProp M) (l : List (Fin 8)) : iprop(each A l ∗ each B l) ⊢ each (fun k => iprop(A k ∗ B k)) l := (each_sep A B l).2
theorem zip3 (A B C : Fin 8 → sProp M) (l : List (Fin 8)) : iprop(each A l ∗ each B l ∗ each C l) ⊢ each (fun k => iprop(A k ∗ B k ∗ C k)) l :=
  (sep_mono_right (zip2 B C l)).trans (zip2 A _ l)
theorem zip4 (A B C D : Fin 8 → sProp M) (l : List (Fin 8)) : iprop(each A l ∗ each B l ∗ each C l ∗ each D l) ⊢ each (fun k => iprop(A k ∗ B k ∗ C k ∗ D k)) l :=
  (sep_mono_right (zip3 B C D l)).trans (zip2 A _ l)
theorem unzip2 (A B : Fin 8 → sProp M) (l : List (Fin 8)) : each (fun k => iprop(A k ∗ B k)) l ⊢ iprop(each A l ∗ each B l) := (each_sep A B l).1
theorem unzip3 (A B C : Fin 8 → sProp M) (l : List (Fin 8)) : each (fun k => iprop(A k ∗ B k ∗ C k)) l ⊢ iprop(each A l ∗ each B l ∗ each C l) :=
  (unzip2 A _ l).trans (sep_mono_right (unzip2 B C l))
theorem unzip4 (A B C D : Fin 8 → sProp M) (l : List (Fin 8)) : each (fun k => iprop(A k ∗ B k ∗ C k ∗ D k)) l ⊢ iprop(each A l ∗ each B l ∗ each C l ∗ each D l) :=
  (unzip2 A _ l).trans (sep_mono_right (unzip3 B C D l))
theorem unzip5 (A B C D E : Fin 8 → sProp M) (l : List (Fin 8)) :
    each (fun k => iprop(A k ∗ B k ∗ C k ∗ D k ∗ E k)) l ⊢ iprop(each A l ∗ each B l ∗ each C l ∗ each D l ∗ each E l) :=
  (unzip2 A _ l).trans (sep_mono_right (unzip4 B C D E l))

end Zip

/-! ## The positions -/

/-- Device `c`'s place on remote semaphore `j`. -/
def pos (c : Dev nD) (j : Fin 66) : sProp 𝕄 := atPos ER (dcell c j) 0 ∅ 0
theorem await_eq (c : Dev nD) (j : Fin 66) : await (F := F) c j = iprop(pos c j ∗ sent c j) := rfl

/-- A semaphore nobody uses is at zero. -/
theorem close_idle (c : Dev nD) (j : Fin 66) (h : live j = false) : iprop(known m K ∗ pos c j) ⊢ |={Set.univ}=> still (F := F) c j := by
  unfold pos still
  iintro ⟨#Hk, Hat⟩
  imod (Rounds.cell_close ER (Rd m) (Set.mem_univ (K (c, some j))) (fun h => h) (R := 0) (duties_idle m c j h)) $$ [Hat] with Hz
  · isplitr; · iapply (known_inv m K (c, some j)); iexact Hk
    iexact Hat
  imodintro; iexact Hz

/-! ## The handshake -/

/-- The device's place on the barrier with its credit, and the right to signal both neighbours. -/
def barIn (c : Dev nD) : sProp 𝕄 :=
  iprop(atPos ER (barCell c) 0 ∅ 0 ∗ cred (tallyAt (barCell c) () 2) ∗ dutyTok ER (barCell (yn c)) 0 false ∗ dutyTok ER (barCell (xn c)) 0 true)

/-- The device hands its own result rows to its neighbours and gets theirs. -/
theorem spec_handshake (c : Dev nD) :
    Spec m K c iprop((barPay m (yn c) false ∗ barPay m (xn c) true ∗ barIn c) ∗ ow c (O₀ c)) (handshake c)
      iprop((barPay m c false ∗ barPay m c true ∗ semVal (barCell c) 0) ∗ ow c (OP c all8)) := by
  intro rest Kt
  unfold handshake barIn ow
  rw [devY_eq, devX_eq]
  simp only [semSignalWord, semWaitWord, Prog.lift, Prog.bind_op, Prog.bind_ret]
  iintro ⟨#Hk, ⟨Hgy, Hgx, Hat, Hc, Hty, Htx⟩, ⟨%W, HO⟩⟩ HQ
  iapply (Rounds.wp_signal 𝒱₀ ER (Rd m) (c : Thread nD τ) none (dst := (yn c : Thread nD τ)) (κ := K (yn c, none))
      (d := false) (by rw [duties_bar]; exact Finset.mem_univ _) ((amount_bar m (yn c) false).trans (by decide)) () (O₁ c) rfl)
    $$ [HO Hty Hgy]
  · isplitr; · iapply (known_inv m K (yn c, none)); iexact Hk
    isplitl [HO]; · iexact HO
    isplitl [Hty]; · iexact Hty
    isplitl [Hgy]; · rw [payload_bar]; iexact Hgy
    iapply (known_reached m K (yn c, none)); iexact Hk
  iintro HO
  iapply (Rounds.wp_signal 𝒱₀ ER (Rd m) (c : Thread nD τ) none (dst := (xn c : Thread nD τ)) (κ := K (xn c, none))
      (d := true) (by rw [duties_bar]; exact Finset.mem_univ _) ((amount_bar m (xn c) true).trans (by decide)) () (OP c all8) rfl)
    $$ [HO Htx Hgx]
  · isplitr; · iapply (known_inv m K (xn c, none)); iexact Hk
    isplitl [HO]; · iexact HO
    isplitl [Htx]; · iexact Htx
    isplitl [Hgx]; · rw [payload_bar]; iexact Hgx
    iapply (known_reached m K (xn c, none)); iexact Hk
  iintro HO
  iapply (Rounds.wp_wait_rest_token 𝒱₀ ER (Rd m) (c : Thread nD τ) none (κ := K (c, none))
      (wpE_semWait_eq 𝒱₀ (c : Thread nD τ) none Set.univ) (Set.mem_univ _) () (O := OP c all8) (W := W) (R := 0) (m := 0) (T := ∅)
      (by rw [expect_bar]; decide)) $$ [Hc HO Hat]
  · isplitr; · iapply (known_inv m K (c, none)); iexact Hk
    isplitl [Hc]; · iexact Hc
    isplitl [HO]; · iexact HO
    isplitr; · iapply (mayWait c (.reg barS) 1 _ (lv_bar c).le (above_OP c all8)); iapply (known_levels m K); iexact Hk
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (known_inv m K (c, none)); iexact Hk
    iexact Hat
  icases Hp with ⟨Hp1, Hp2⟩
  iapply HQ
  isplitr [HO]
  · isplitl [Hp1]; · iexact Hp1
    isplitl [Hp2] <;> iassumption
  · iexists _; iexact HO

/-! ## The stages, chunk by chunk -/

theorem sendPart_at (c : Dev nD) (k : Fin 8) (js jr : Fin 66) :
    sendPart (F := F) (k0_off2 c (wd k)) (k0_off2_inb c k) (k0_off1 c (wd k)) (k0_off1_inb c k) (devY c) js jr
      = sendPart (offP (yn c) k) (fitsP (yn c) k) (off (yn c) k) (fits (yn c) k) (yn c) js jr := by
  have h : ∀ o o' (h : FitsP o) (h' : FitsP o') p p' (g : Fits p) (g' : Fits p') (d d' : Dev nD), o = o' → p = p' → d = d' →
      sendPart (F := F) o h p g d js jr = sendPart o' h' p' g' d' js jr :=
    fun _ _ _ _ _ _ _ _ _ _ e e' e'' => by subst e; subst e'; subst e''; rfl
  exact h _ _ _ _ _ _ _ _ _ _ (off2_eq c k) (off1_eq c k) (devY_eq c)

theorem spec_exchange (c : Dev nD) (k : Fin 8) (l : List (Fin 8)) :
    Spec m K c iprop((pPts c (yn c) k (partV m c) ∗ raw m (yn c) (yn c) k ∗ token c (at8 0 k) ∗ token (yn c) (at8 1 k)) ∗ ow c (OP c (k :: l))) (exchange c k)
      iprop(sent c (at8 0 k) ∗ ow c (OP c l)) := by
  unfold exchange; rw [sendPart_at]; exact spec_sendPart c k (OP c l)

theorem spec_relay (c : Dev nD) (k : Fin 8) (hk : live (at8 6 k) = true ∧ live (at8 7 k) = true) (l : List (Fin 8)) :
    Spec m K c iprop((await c (at8 3 k) ∗ raw m (xn c) (yn c) k ∗ token c (at8 6 k) ∗ token (xn c) (at8 7 k)) ∗ ow c (OF c (k :: l))) (relay c k)
      iprop((still c (at8 3 k) ∗ sent c (at8 6 k)) ∗ ow c (OF c l)) := by
  have h3 : live (at8 3 k) = true := by revert k; decide
  intro rest Kt
  unfold relay
  rw [sendOut_at (k0_off1_inb c k) (fits (yn c) k) (at8 6 k) (at8 7 k) (off1_eq c k) (devX_eq c)]
  iintro ⟨#Hk, ⟨Haw, Hx, Ht6, Ht7⟩, How⟩ HQ
  iapply (spec_first (spec_waitOut c (at8 3 k) h3 3 (level_at8 k).2.1.le _ (above_OF c (k :: l)) _ _) _ rest Kt) $$ [Haw How]
  · isplitr; · iexact Hk
    isplitl [Haw] <;> iassumption
  rw [pay_at8]
  iintro ⟨⟨Hb, Hs3⟩, How⟩
  iapply (spec_sendOut c (xn c) (yn c) k fullShare (at8 6 k) (at8 7 k) hk.1 hk.2 (outV m (xn c)) (OF c l) (pay_at8 m c 6 k)
    ((pay_at8 m (xn c) 7 k).trans (by unfold fam; rw [dg_xn])) rest Kt) $$ [Hb Hx Ht6 Ht7 How]
  · isplitr; · iexact Hk
    isplitr [How]
    · isplitl [Hb]; · unfold fam; iexact Hb
      isplitl [Hx]; · unfold raw; iexact Hx
      isplitl [Ht6] <;> iassumption
    · iexact How
  iintro ⟨Hs6, How⟩
  iapply HQ
  isplitr [How]
  · isplitl [Hs3] <;> iassumption
  · iexact How

/-- A departed chunk gives back the rows it was sent from. -/
def drained (c : Dev nD) (k : Fin 8) : sProp 𝕄 :=
  iprop(pPts c (yn c) k (partV m c) ∗ oPts c c k fullShare (doneV m) ∗ (still c (at8 0 k) ∗ still c (at8 2 k) ∗ still c (at8 4 k)))
def leaving (c : Dev nD) (k : Fin 8) : sProp 𝕄 := iprop(await c (at8 0 k) ∗ await c (at8 2 k) ∗ await c (at8 4 k))

theorem drained_intro (c : Dev nD) (k : Fin 8) :
    iprop((fam m 0 c k ∗ still c (at8 0 k)) ∗ (fam m 2 c k ∗ still c (at8 2 k)) ∗ (fam m 4 c k ∗ still c (at8 4 k))) ⊢ drained (m := m) c k := by
  unfold drained fam
  iintro ⟨⟨H0, Hs0⟩, ⟨H2, Hs2⟩, H4, Hs4⟩
  isplitl [H0]; · iexact H0
  isplitl [H2 H4]
  · iapply (oPts_halves c c k (doneV m)).2; isplitl [H2] <;> iassumption
  isplitl [Hs0]; · iexact Hs0
  isplitl [Hs2] <;> iassumption

theorem spec_drain (c : Dev nD) (k : Fin 8) (hk : live (at8 6 k) = true) :
    Spec m K c iprop((leaving c k ∗ await c (at8 6 k)) ∗ ow c 0) (drain c k)
      iprop((drained (m := m) c k ∗ oPts c (yn c) k fullShare (doneV m) ∗ still c (at8 6 k)) ∗ ow c 0) := by
  have h0 : live (at8 0 k) = true := by revert k; decide
  have h2 : live (at8 2 k) = true := by revert k; decide
  have h4 : live (at8 4 k) = true := by revert k; decide
  intro rest Kt
  unfold drain leaving
  iintro ⟨#Hk, ⟨⟨H0, H2, H4⟩, H6⟩, How⟩ HQ
  iapply (spec_first (spec_waitPartSent c (at8 0 k) h0 0 (level_sent k).1.le _ (above_zero _) _ _ _ _) _ rest Kt) $$ [H0 How]
  · isplitr; · iexact Hk
    isplitl [H0] <;> iassumption
  iintro ⟨H0, How⟩
  iapply (spec_first (spec_waitOut c (at8 6 k) hk 0 (level_sent k).2.2.2.le _ (above_zero _) _ _) _ rest Kt) $$ [H6 How]
  · isplitr; · iexact Hk
    isplitl [H6] <;> iassumption
  iintro ⟨H6, How⟩
  iapply (spec_first (spec_waitOut c (at8 2 k) h2 0 (level_sent k).2.1.le _ (above_zero _) _ _) _ rest Kt) $$ [H2 How]
  · isplitr; · iexact Hk
    isplitl [H2] <;> iassumption
  iintro ⟨H2, How⟩
  iapply (spec_waitOut c (at8 4 k) h4 0 (level_sent k).2.2.1.le _ (above_zero _) _ _ rest Kt) $$ [H4 How]
  · isplitr; · iexact Hk
    isplitl [H4] <;> iassumption
  iintro ⟨H4, How⟩
  simp only [pay_at8]
  iapply HQ
  isplitr [How]
  · isplitl [H0 H2 H4]
    · iapply drained_intro
      isplitl [H0]; · iexact H0
      isplitl [H2] <;> iassumption
    · iexact H6
  · iexact How

theorem spec_drainLast (c : Dev nD) :
    Spec m K c iprop(leaving c 7 ∗ ow c 0) (drainLast c) iprop(drained (m := m) c 7 ∗ ow c 0) := by
  intro rest Kt
  unfold drainLast leaving
  iintro ⟨#Hk, ⟨H0, H2, H4⟩, How⟩ HQ
  iapply (spec_first (spec_waitPartSent c (at8 0 7) rfl 0 (level_sent 7).1.le _ (above_zero _) _ _ _ _) _ rest Kt) $$ [H0 How]
  · isplitr; · iexact Hk
    isplitl [H0] <;> iassumption
  iintro ⟨H0, How⟩
  iapply (spec_first (spec_waitOut c (at8 2 7) rfl 0 (level_sent 7).2.1.le _ (above_zero _) _ _) _ rest Kt) $$ [H2 How]
  · isplitr; · iexact Hk
    isplitl [H2] <;> iassumption
  iintro ⟨H2, How⟩
  iapply (spec_waitOut c (at8 4 7) rfl 0 (level_sent 7).2.2.1.le _ (above_zero _) _ _ rest Kt) $$ [H4 How]
  · isplitr; · iexact Hk
    isplitl [H4] <;> iassumption
  iintro ⟨H4, How⟩
  simp only [pay_at8]
  iapply HQ
  isplitr [How]
  · iapply drained_intro
    isplitl [H0]; · iexact H0
    isplitl [H2] <;> iassumption
  · iexact How

end Cert.KernelIdealRun

end
-- ==== Proof.BodyIdeal.lean ====
module

public import proofs.«01_k».proof.Proof.StagesIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable {m : (ℓ : Loc nD τ sig) → Buf (Elt F) ℓ} {K : Dev nD × Slot → ℕ}

theorem live_first (f k : Fin 8) (hk : k ∈ first7) : live (at8 f k) = true := by revert f k; decide
theorem live_other (f k : Fin 8) (hf : f ≠ 6) (hf' : f ≠ 7) : live (at8 f k) = true := by revert f k; decide

/-! ## The last part -/

def tailIn (c : Dev nD) : sProp 𝕄 :=
  iprop(each (fun k => await c (at8 5 k)) all8 ∗ (raw m (yn c) (xn c) 7 ∗ token c jCs ∗ token (yn c) jCr)
    ∗ each (fun k => await c (at8 7 k)) first7 ∗ await c jCr ∗ pos c jCs
    ∗ each (leaving c) first7 ∗ each (fun k => await c (at8 6 k)) first7 ∗ leaving c 7)
def tailOut (c : Dev nD) : sProp 𝕄 :=
  iprop(each (fun k => oPts c (xn c) k fullShare (doneV m)) all8 ∗ each (fun k => oPts c (dg c) k fullShare (doneV m)) all8
    ∗ each (drained (m := m) c) all8 ∗ each (fun k => oPts c (yn c) k fullShare (doneV m)) first7
    ∗ (each (fun k => still c (at8 5 k)) all8 ∗ each (fun k => still c (at8 7 k)) first7 ∗ each (fun k => still c (at8 6 k)) first7
      ∗ still c jCs ∗ still c jCr))

/-- Waiting for one array of arrivals. -/
theorem spec_arrivals (c : Dev nD) (f : Fin 8) (n : ℕ) (O : CellTallies nD τ sig Unit) (hO : Above n O) (l : List (Fin 8))
    (hl : ∀ k ∈ l, live (at8 f k) = true ∧ level (at8 f k) ≤ n) (o : Fin 8 → Fin 2 → Nat) (ho : ∀ k, Fits (o k)) :
    Spec m K c iprop(each (fun k => await c (at8 f k)) l ∗ ow c O) (run (l.map fun k => waitOut (o k) (ho k) (at8 f k)))
      iprop(each (fun k => iprop(fam m f c k ∗ still c (at8 f k))) l ∗ ow c O) :=
  Spec.run (I := fun _ => ow c O) (fun k => live (at8 f k) = true ∧ level (at8 f k) ≤ n) (fun k _ hk => by
    have h := spec_waitOut (m := m) (K := K) c (at8 f k) hk.1 n hk.2 O hO (o k) (ho k)
    rw [pay_at8] at h; exact h) l hl

theorem spec_tail (c : Dev nD) : Spec m K c iprop(tailIn (m := m) c ∗ ow c (OC c)) (tail c) iprop(tailOut (m := m) c ∗ ow c 0) := by
  intro rest Kt
  unfold tail tailIn tailOut
  rw [sendOut_at (k0_off5_inb c 7) (fits (xn c) 7) jCs jCr (off5_eq c 7) (devY_eq c)]
  iintro ⟨#Hk, ⟨H5, ⟨Hraw, HtS, HtR⟩, H7, HR, HpS, HL, H6, HL7⟩, How⟩ HQ
  iapply (spec_first (spec_arrivals c 5 3 (OC c) ((above_OC c).mono (by decide)) all8
    (fun k _ => ⟨live_other 5 k (by decide) (by decide), (level_at8 k).2.2.1.le⟩) _ _) _ rest Kt) $$ [H5 How]
  · isplitr; · iexact Hk
    isplitl [H5] <;> iassumption
  iintro ⟨H5, How⟩
  ihave H5 := (unzip2 _ _ _) $$ H5
  icases H5 with ⟨H5, Hs5⟩
  ihave H5 := (each_last _).1 $$ H5
  icases H5 with ⟨H5, Hb⟩
  ihave How := (Entails.of_eq (congrArg (ow c) (show OC c = 0 + due (yn c) jCr from (zero_add _).symm))) $$ How
  iapply (spec_first (spec_sendOut c (yn c) (xn c) 7 fullShare jCs jCr rfl rfl (outV m (yn c)) 0 (pay_Cs m c)
    ((pay_Cr m (yn c)).trans (by rw [dg_yn]))) _ rest Kt) $$ [Hb Hraw HtS HtR How]
  · isplitr; · iexact Hk
    isplitr [How]
    · isplitl [Hb]; · unfold fam; iexact Hb
      isplitl [Hraw]; · unfold raw; iexact Hraw
      isplitl [HtS] <;> iassumption
    · iexact How
  iintro ⟨HcS, How⟩
  iapply (spec_first (spec_arrivals c 7 4 0 (above_zero _) first7 (fun k hk => ⟨live_first 7 k hk, (level_at8 k).2.2.2.le⟩) _ _) _ rest Kt) $$ [H7 How]
  · isplitr; · iexact Hk
    isplitl [H7] <;> iassumption
  iintro ⟨H7, How⟩
  ihave H7 := (unzip2 _ _ _) $$ H7
  icases H7 with ⟨H7, Hs7⟩
  iapply (spec_first (spec_waitOut c jCr rfl 5 (by decide) 0 (above_zero _) _ _) _ rest Kt) $$ [HR How]
  · isplitr; · iexact Hk
    isplitl [HR] <;> iassumption
  rw [pay_Cr]
  iintro ⟨⟨HR, HsR⟩, How⟩
  iapply (spec_first (spec_waitOut c jCs rfl 5 (by decide) 0 (above_zero _) _ _) _ rest Kt) $$ [HpS HcS How]
  · isplitr; · iexact Hk
    isplitr [How]
    · rw [await_eq]; isplitl [HpS] <;> iassumption
    · iexact How
  rw [pay_Cs]
  iintro ⟨⟨HS, HsS⟩, How⟩
  iapply (spec_first (Spec.run (I := fun _ => ow c 0) (fun k => live (at8 6 k) = true) (fun k _ hk => spec_drain c k hk) first7
    (fun k hk => live_first 6 k hk)) _ rest Kt) $$ [HL H6 How]
  · isplitr; · iexact Hk
    isplitr [How]
    · iapply (zip2 _ _ _); isplitl [HL] <;> iassumption
    · iexact How
  iintro ⟨HD, How⟩
  ihave HD := (unzip3 _ _ _ _) $$ HD
  icases HD with ⟨HD, Hy, Hs6⟩
  iapply (spec_drainLast c rest Kt) $$ [HL7 How]
  · isplitr; · iexact Hk
    isplitl [HL7] <;> iassumption
  iintro ⟨HD7, How⟩
  iapply HQ
  isplitr [How]
  · isplitl [H5 HS]
    · iapply (each_last _).2; isplitl [H5]; · unfold fam; iexact H5
      iexact HS
    isplitl [H7 HR]
    · iapply (each_last _).2; isplitl [H7]; · unfold fam; iexact H7
      iexact HR
    isplitl [HD HD7]
    · iapply (each_last _).2; isplitl [HD] <;> iassumption
    isplitl [Hy]; · iexact Hy
    isplitl [Hs5]; · iexact Hs5
    isplitl [Hs7]; · iexact Hs7
    isplitl [Hs6]; · iexact Hs6
    isplitl [HsS] <;> iassumption
  · iexact How

/-! ## The whole body -/

theorem zip_await (c : Dev nD) (f : Fin 8) (l : List (Fin 8)) :
    iprop(each (fun k => pos c (at8 f k)) l ∗ each (fun k => sent c (at8 f k)) l) ⊢ each (fun k => await (F := F) c (at8 f k)) l := zip2 _ _ l
theorem zip_leaving (c : Dev nD) (l : List (Fin 8)) :
    iprop(each (fun k => await c (at8 0 k)) l ∗ each (fun k => await c (at8 2 k)) l ∗ each (fun k => await c (at8 4 k)) l) ⊢ each (leaving (F := F) c) l :=
  zip3 _ _ _ l

/-- The device's places on its remote semaphores. -/
def places (c : Dev nD) : sProp 𝕄 :=
  iprop(each (fun k => pos c (at8 0 k)) all8 ∗ each (fun k => pos c (at8 1 k)) all8 ∗ each (fun k => pos c (at8 2 k)) all8 ∗ each (fun k => pos c (at8 3 k)) all8
    ∗ each (fun k => pos c (at8 4 k)) all8 ∗ each (fun k => pos c (at8 5 k)) all8 ∗ each (fun k => pos c (at8 6 k)) all8 ∗ each (fun k => pos c (at8 7 k)) all8
    ∗ pos c jCs ∗ pos c jCr)
/-- The credits to wait for what will arrive. -/
def credits (c : Dev nD) : sProp 𝕄 :=
  iprop(each (fun k => sent c (at8 1 k)) all8 ∗ each (fun k => sent c (at8 3 k)) all8 ∗ each (fun k => sent c (at8 5 k)) all8
    ∗ each (fun k => sent c (at8 7 k)) first7 ∗ sent c jCr)
/-- The rights to complete what the device will send. -/
def rights (c : Dev nD) : sProp 𝕄 :=
  iprop(each (fun k => token c (at8 0 k)) all8 ∗ each (fun k => token (yn c) (at8 1 k)) all8
    ∗ each (fun k => token c (at8 2 k)) all8 ∗ each (fun k => token (yn c) (at8 3 k)) all8
    ∗ each (fun k => token c (at8 4 k)) all8 ∗ each (fun k => token (xn c) (at8 5 k)) all8
    ∗ each (fun k => token c (at8 6 k)) first7 ∗ each (fun k => token (xn c) (at8 7 k)) first7
    ∗ token c jCs ∗ token (yn c) jCr)
/-- The rows of its inputs the body reads. -/
def inputs (c : Dev nD) : sProp 𝕄 :=
  iprop(each (fun k => pPts c (yn c) k (partV m c)) all8 ∗ each (fun k => pPts c c k (partV m c)) all8 ∗ each (fun k => rPts c c k (resV m c)) all8)
/-- Its remote semaphores at zero. -/
def stills (c : Dev nD) : sProp 𝕄 :=
  iprop(each (fun k => still c (at8 0 k)) all8 ∗ each (fun k => still c (at8 1 k)) all8 ∗ each (fun k => still c (at8 2 k)) all8 ∗ each (fun k => still c (at8 3 k)) all8
    ∗ each (fun k => still c (at8 4 k)) all8 ∗ each (fun k => still c (at8 5 k)) all8 ∗ each (fun k => still c (at8 6 k)) all8 ∗ each (fun k => still c (at8 7 k)) all8
    ∗ still c jCs ∗ still c jCr)
/-- The finished result, quarter by quarter. -/
def results (c : Dev nD) : sProp 𝕄 :=
  iprop(each (fun k => oPts c c k fullShare (doneV m)) all8 ∗ each (fun k => oPts c (yn c) k fullShare (doneV m)) all8
    ∗ each (fun k => oPts c (xn c) k fullShare (doneV m)) all8 ∗ each (fun k => oPts c (dg c) k fullShare (doneV m)) all8)

def bodyIn (c : Dev nD) : sProp 𝕄 :=
  iprop((barPay m (yn c) false ∗ barPay m (xn c) true ∗ barIn c) ∗ places c ∗ credits c ∗ rights c ∗ inputs (m := m) c ∗ shop (m := m) c)
def bodyOut (c : Dev nD) : sProp 𝕄 :=
  iprop(results (m := m) c ∗ inputs (m := m) c ∗ shop (m := m) c ∗ stills c ∗ semVal (barCell c) 0)

/-- From what its neighbours will send and the rows it starts with, the body leaves the finished result on every device. -/
theorem spec_body (c : Dev nD) : Spec m K c iprop(bodyIn (m := m) c ∗ ow c (O₀ c)) (bodyOn c) iprop(bodyOut (m := m) c ∗ ow c 0) := by
  intro rest Kt
  unfold bodyOn bodyIn places credits rights inputs
  iintro ⟨#Hk, ⟨Hh, ⟨P0, P1, P2, P3, P4, P5, P6, P7, PS, PR⟩, ⟨C1, C3, C5, C7, CR⟩, ⟨T0, T1, T2, T3, T4, T5, T6, T7, TS, TR⟩, ⟨Hpy, Hpc, Hrc⟩, Hshop⟩, How⟩ HQ
  iapply (spec_first (spec_handshake c) _ rest Kt) $$ [Hh How]
  · isplitr; · iexact Hk
    isplitl [Hh] <;> iassumption
  unfold barPay
  simp only [if_true, Bool.false_eq_true, if_false]
  iintro ⟨⟨⟨Ryy, Ryc, Ry7⟩, ⟨Rxc, Rxy⟩, Hbar⟩, How⟩
  iapply (spec_first (Spec.run (I := fun l => ow c (OP c l)) (fun _ => True) (fun k l _ => spec_exchange c k l) all8 (fun _ _ => trivial)) _ rest Kt) $$ [Hpy Ryy T0 T1 How]
  · isplitr; · iexact Hk
    isplitr [How]
    · iapply (zip4 _ _ _ _ _)
      isplitl [Hpy]; · iexact Hpy
      isplitl [Ryy]; · iexact Ryy
      isplitl [T0] <;> iassumption
    · iexact How
  iintro ⟨S0, How⟩
  iapply (spec_first (Spec.run (I := fun l => iprop(shop (m := m) c ∗ ow c (OA c l))) (fun _ => True) (fun k l _ => spec_finish c k l) all8 (fun _ _ => trivial)) _ rest Kt)
    $$ [Hpc Hrc P1 C1 Ryc Rxc T2 T3 T4 T5 Hshop How]
  · isplitr; · iexact Hk
    isplitr [Hshop How]
    · unfold finIn
      ihave HA := (zip_await c 1 _) $$ [P1 C1]
      · isplitl [P1] <;> iassumption
      ihave HT2 := (zip2 _ _ _) $$ [T2 T3]
      · isplitl [T2] <;> iassumption
      ihave HT4 := (zip2 _ _ _) $$ [T4 T5]
      · isplitl [T4] <;> iassumption
      ihave HT := (zip4 _ _ _ _ _) $$ [Ryc Rxc HT2 HT4]
      · isplitl [Ryc]; · iexact Ryc
        isplitl [Rxc]; · iexact Rxc
        isplitl [HT2] <;> iassumption
      iapply (zip4 _ _ _ _ _)
      isplitl [Hpc]; · iexact Hpc
      isplitl [Hrc]; · iexact Hrc
      isplitl [HA]; · iexact HA
      iexact HT
    · isplitl [Hshop]; · iexact Hshop
      iexact How
  iintro ⟨HF, Hshop, How⟩
  unfold finOut
  ihave HF := (unzip5 _ _ _ _ _ _) $$ HF
  icases HF with ⟨Hpc, Hrc, Z1, S2, S4⟩
  ihave P3 := (zip_await c 3 _) $$ [P3 C3]
  · isplitl [P3] <;> iassumption
  ihave P3 := (each_last _).1 $$ P3
  icases P3 with ⟨P3, P37⟩
  iapply (spec_first (Spec.run (I := fun l => ow c (OF c l)) (fun k => live (at8 6 k) = true ∧ live (at8 7 k) = true) (fun k l hk => spec_relay c k hk l) first7
    (fun k hk => ⟨live_first 6 k hk, live_first 7 k hk⟩)) _ rest Kt) $$ [P3 Rxy T6 T7 How]
  · isplitr; · iexact Hk
    isplitr [How]
    · iapply (zip4 _ _ _ _ _)
      isplitl [P3]; · iexact P3
      isplitl [Rxy]; · iexact Rxy
      isplitl [T6] <;> iassumption
    · iexact How
  iintro ⟨HF, How⟩
  ihave HF := (unzip2 _ _ _) $$ HF
  icases HF with ⟨Z3, S6⟩
  iapply (spec_first (spec_waitOut c (at8 3 7) rfl 3 (level_at8 7).2.1.le _ (above_OF c []) _ _) _ rest Kt) $$ [P37 How]
  · isplitr; · iexact Hk
    isplitl [P37] <;> iassumption
  rw [pay_at8]
  iintro ⟨⟨Y7, Z37⟩, How⟩
  ihave P6 := (each_last _).1 $$ P6
  icases P6 with ⟨P6, P67⟩
  ihave P7 := (each_last _).1 $$ P7
  icases P7 with ⟨P7, P77⟩
  imod (close_idle (m := m) (K := K) c (at8 6 7) rfl) $$ [P67] with Z67
  · isplitr; · iexact Hk
    iexact P67
  imod (close_idle (m := m) (K := K) c (at8 7 7) rfl) $$ [P77] with Z77
  · isplitr; · iexact Hk
    iexact P77
  ihave A5 := (zip_await c 5 _) $$ [P5 C5]
  · isplitl [P5] <;> iassumption
  ihave A7 := (zip_await c 7 _) $$ [P7 C7]
  · isplitl [P7] <;> iassumption
  ihave A6 := (zip_await c 6 _) $$ [P6 S6]
  · isplitl [P6] <;> iassumption
  ihave A0 := (zip_await c 0 _) $$ [P0 S0]
  · isplitl [P0] <;> iassumption
  ihave A2 := (zip_await c 2 _) $$ [P2 S2]
  · isplitl [P2] <;> iassumption
  ihave A4 := (zip_await c 4 _) $$ [P4 S4]
  · isplitl [P4] <;> iassumption
  ihave AL := (zip_leaving c _) $$ [A0 A2 A4]
  · isplitl [A0]; · iexact A0
    isplitl [A2] <;> iassumption
  ihave AL := (each_last _).1 $$ AL
  icases AL with ⟨AL, AL7⟩
  iapply (spec_tail c rest Kt) $$ [A5 Ry7 TS TR A7 PR CR PS AL A6 AL7 How]
  · isplitr; · iexact Hk
    isplitr [How]
    · unfold tailIn
      isplitl [A5]; · iexact A5
      isplitl [Ry7 TS TR]
      · isplitl [Ry7]; · iexact Ry7
        isplitl [TS] <;> iassumption
      isplitl [A7]; · iexact A7
      isplitl [PR CR]; · rw [await_eq]; isplitl [PR] <;> iassumption
      isplitl [PS]; · iexact PS
      isplitl [AL]; · iexact AL
      isplitl [A6]; · iexact A6
      iexact AL7
    · iexact How
  unfold tailOut
  iintro ⟨⟨HX, HD, HL, HY, Z5, Z7, Z6, ZS, ZR⟩, How⟩
  unfold drained
  ihave HL := (unzip3 _ _ _ _) $$ HL
  icases HL with ⟨Hpy, HC, HZ⟩
  ihave HZ := (unzip3 _ _ _ _) $$ HZ
  icases HZ with ⟨Z0, Z2, Z4⟩
  iapply HQ
  isplitr [How]
  · unfold bodyOut results inputs stills
    isplitl [HC HY Y7 HX HD]
    · isplitl [HC]; · iexact HC
      isplitl [HY Y7]
      · iapply (each_last _).2; isplitl [HY]; · iexact HY
        unfold fam; iexact Y7
      isplitl [HX] <;> iassumption
    isplitl [Hpy Hpc Hrc]
    · isplitl [Hpy]; · iexact Hpy
      isplitl [Hpc] <;> iassumption
    isplitl [Hshop]; · iexact Hshop
    isplitr [Hbar]
    · isplitl [Z0]; · iexact Z0
      isplitl [Z1]; · iexact Z1
      isplitl [Z2]; · iexact Z2
      isplitl [Z3 Z37]
      · iapply (each_last _).2; isplitl [Z3] <;> iassumption
      isplitl [Z4]; · iexact Z4
      isplitl [Z5]; · iexact Z5
      isplitl [Z6 Z67]
      · iapply (each_last _).2; isplitl [Z6] <;> iassumption
      isplitl [Z7 Z77]
      · iapply (each_last _).2; isplitl [Z7] <;> iassumption
      isplitl [ZS] <;> iassumption
    · iexact Hbar
  · iexact How

end Cert.KernelIdealRun

end
-- ==== Proof.ObligationIdeal.lean ====
module

public import proofs.«01_k».proof.Proof.BodyIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ
variable (m : (ℓ : Loc nD τ sig) → Buf (Elt F) ℓ)

/-! ## The four quarters -/

/-- A resource per block, quarter by quarter. -/
theorem quarters (c : Dev nD) (A : Dev nD → Fin 8 → sProp 𝕄) :
    bigSep Finset.univ (fun b : Dev nD × Fin 8 => A b.1 b.2) = iprop(each (A c) all8 ∗ each (A (yn c)) all8 ∗ each (A (xn c)) all8 ∗ each (A (dg c)) all8) := by
  rw [bigSep_univ_prod, bigSep_univ_eq_bigSepL [c, yn c, xn c, dg c] (by revert c; decide) (four_nodup c)]
  simp only [bigSepL_cons_cons, bigSepL_singleton, each_all]
  rfl

/-- What the device gives its neighbours at the handshake is its whole result array. -/
theorem give (c : Dev nD) : (((c : Thread nD τ).loc main_v1) ↦{fullShare} outV m c : sProp 𝕄) ⊢ iprop(barPay m (yn c) false ∗ barPay m (xn c) true) := by
  rw [out_blocks, quarters c (fun q k => oPts c q k fullShare (outV m c))]
  unfold barPay raw
  simp only [if_true, Bool.false_eq_true, if_false, yn_yn, xn_xn, xn_yn, yn_xn]
  iintro ⟨H1, H2, H3, H4⟩
  ihave H4 := (each_last _).1 $$ H4
  icases H4 with ⟨H4, H5⟩
  isplitl [H1 H2 H5]
  · isplitl [H1]; · iexact H1
    isplitl [H2] <;> iassumption
  · isplitl [H3] <;> iassumption

/-- And the four finished quarters are the whole array again. -/
theorem gather (c : Dev nD) : results (m := m) c ⊢ (((c : Thread nD τ).loc main_v1) ↦{fullShare} doneV m : sProp 𝕄) := by
  rw [out_blocks, quarters c (fun q k => oPts c q k fullShare (doneV m))]; exact Entails.refl _

/-- The rows of the inputs the body does not touch. -/
def others (c : Dev nD) : sProp 𝕄 :=
  iprop((each (fun k => pPts c (xn c) k (partV m c)) all8 ∗ each (fun k => pPts c (dg c) k (partV m c)) all8)
    ∗ (each (fun k => rPts c (yn c) k (resV m c)) all8 ∗ each (fun k => rPts c (xn c) k (resV m c)) all8 ∗ each (fun k => rPts c (dg c) k (resV m c)) all8))
/-- The input arrays whole. -/
def arrays (c : Dev nD) : sProp 𝕄 :=
  iprop((((c : Thread nD τ).loc main_arg0) ↦{fullShare} partV m c) ∗ (((c : Thread nD τ).loc main_arg1) ↦{fullShare} resV m c))
theorem arrays_rows (c : Dev nD) : arrays m c ⊣⊢ iprop(inputs (m := m) c ∗ others m c) := by
  unfold arrays inputs others
  rw [part_blocks, resid_blocks, quarters c (fun q k => pPts c q k (partV m c)), quarters c (fun q k => rPts c q k (resV m c))]
  constructor
  · iintro ⟨⟨H1, H2, H3, H4⟩, G1, G2, G3, G4⟩
    isplitl [H1 H2 G1]
    · isplitl [H2]; · iexact H2
      isplitl [H1] <;> iassumption
    · isplitl [H3 H4]
      · isplitl [H3] <;> iassumption
      · isplitl [G2]; · iexact G2
        isplitl [G3] <;> iassumption
  · iintro ⟨⟨H2, H1, G1⟩, ⟨H3, H4⟩, G2, G3, G4⟩
    isplitl [H1 H2 H3 H4]
    · isplitl [H1]; · iexact H1
      isplitl [H2]; · iexact H2
      isplitl [H3] <;> iassumption
    · isplitl [G1]; · iexact G1
      isplitl [G2]; · iexact G2
      isplitl [G3] <;> iassumption

/-! ## What holds before and after the body -/

/-- The four scratch buffers whole, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def idles (c : Dev nD) : sProp 𝕄 := iprop(idle c 0 ∗ idle c 1 ∗ idle c 2 ∗ idle c 3)

theorem held_whole (c : Dev nD) (f : S128x4096.Idx → Elt F .f32) :
    held (F := F) c bufP f = (((c : Thread nD τ).loc cc0_scratch0) ↦{fullShare} f : sProp 𝕄)
      ∧ held (F := F) c bufS f = (((c : Thread nD τ).loc cc0_scratch1) ↦{fullShare} f : sProp 𝕄)
      ∧ held (F := F) c bufR f = (((c : Thread nD τ).loc cc0_scratch2) ↦{fullShare} f : sProp 𝕄)
      ∧ held (F := F) c bufO f = (((c : Thread nD τ).loc cc0_scratch3) ↦{fullShare} f : sProp 𝕄) := by
  unfold held
  refine ⟨?_, ?_, ?_, ?_⟩ <;> (rw [View.set_whole])

theorem shop_eq (c : Dev nD) : shop (m := m) c ⊣⊢ iprop(scratch c ∗ idles c ∗ gPts (m := m) c) := by
  unfold shop scratch idles
  simp only [(held_whole c _).1, (held_whole c _).2.1, (held_whole c _).2.2.1, (held_whole c _).2.2.2]
  constructor
  · iintro ⟨H1, H2, H3, H4, Hi, Hg⟩
    isplitl [H1 H2 H3 H4]
    · isplitl [H1]; · iexact H1
      isplitl [H2]; · iexact H2
      isplitl [H3] <;> iassumption
    · isplitl [Hi] <;> iassumption
  · iintro ⟨⟨H1, H2, H3, H4⟩, Hi, Hg⟩
    isplitl [H1]; · iexact H1
    isplitl [H2]; · iexact H2
    isplitl [H3]; · iexact H3
    isplitl [H4]; · iexact H4
    isplitl [Hi] <;> iassumption

/-- The protocol's share of a device at launch, at some names of the invariants. -/
def ghost (c : Dev nD) : sProp 𝕄 :=
  iprop(∃ K, records m K ∗ (atPos ER (barCell c) 0 ∅ 0 ∗ dutyTok ER (barCell (yn c)) 0 false ∗ dutyTok ER (barCell (xn c)) 0 true)
    ∗ places c ∗ rights c ∗ idles c)
/-- What device `c`'s body starts from. -/
def start (c : Dev nD) : sProp 𝕄 :=
  iprop(ghost m c ∗ levAts L lv ∗ (cred (tallyAt (barCell c) () 2) ∗ credits c) ∗ arrays m c ∗ (((c : Thread nD τ).loc main_v1) ↦{fullShare} outV m c))
def Φ₀ (c : Dev nD) : sProp 𝕄 := iprop(start m c ∗ scratch c)
def Φ₁ (c : Dev nD) : sProp 𝕄 :=
  iprop((arrays m c ∗ (((c : Thread nD τ).loc main_v1) ↦{fullShare} doneV m) ∗ semVal (barCell c) 0) ∗ (stills c ∗ idles c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => gamV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () (t0_0 : Fin cfg0.N).castSucc ∗ (∃ d, stg c cc0_stg0_0 ((dats m 0 c).before (0 : Fin 1) t0_0 d)))
def bodyPost (c : Dev nD) : sProp 𝕄 :=
  iprop(Φ₁ m c ∗ (dats m 0 c).owesAt () (t0_0 : Fin cfg0.N).succ ∗ stg c cc0_stg0_0 (gamV m c))

/-- The body meets its obligation. -/
theorem sound_body (c : Dev nD) :
    bodyPre m c ⊢ wp frame (wpE (defs₀ (F := F)) 𝒱₀ (c : Thread nD τ) none) Set.univ (bodyAt0 (F := F) t0_0) (fun _ => bodyPost m c) := by
  rw [bodyAt_eq]
  simp only [Prog.lift, Prog.bind_op, Prog.bind_ret, wp_deviceId]
  rw [show (bodyOn c : Piece F) = (bodyOn c >>= fun _ => Prog.ret ⟨⟩) from (Prog.bind_pure _).symm]
  unfold bodyPre Φ₀ start ghost
  iintro ⟨⟨⟨⟨%K, #Hrec, ⟨Hbp, Hty, Htx⟩, Hpl, Hri, Hid⟩, #Hlev, ⟨Hcb, Hcr⟩, Harr, Hv⟩, Hscr⟩, Ho, ⟨%d, %g, %hg, Hg⟩⟩
  have hx : g = gamV m c := by rw [hg]; unfold Dat.before; rw [if_pos (fetch0_0 t0_0)]; rfl
  subst hx
  unfold Dat.owesAt Pipeline.owesWithin
  icases Ho with ⟨%W, %hW, HO⟩
  rw [show (dats m 0 c).owed (t0_0 : Fin cfg0.N).castSucc = O₀ c from rfl]
  ihave Hb := (give m c) $$ Hv
  icases Hb with ⟨Hby, Hbx⟩
  ihave Hin := (arrays_rows m c).1 $$ Harr
  icases Hin with ⟨Hin, Hoth⟩
  iapply (spec_body (m := m) (K := K) c (fun _ => Prog.ret ⟨⟩) (fun _ => bodyPost m c)) $$ [Hbp Hty Htx Hpl Hri Hid Hcb Hcr Hin Hby Hbx Hscr Hg HO]
  · isplitr
    · unfold known; isplitr <;> iassumption
    isplitr [HO]
    · unfold bodyIn barIn
      isplitl [Hby Hbx Hbp Hcb Hty Htx]
      · isplitl [Hby]; · iexact Hby
        isplitl [Hbx]; · iexact Hbx
        isplitl [Hbp]; · iexact Hbp
        isplitl [Hcb]; · iexact Hcb
        isplitl [Hty] <;> iassumption
      isplitl [Hpl]; · iexact Hpl
      isplitl [Hcr]; · iexact Hcr
      isplitl [Hri]; · iexact Hri
      isplitl [Hin]; · iexact Hin
      iapply (shop_eq m c).2
      isplitl [Hscr]; · iexact Hscr
      isplitl [Hid]; · iexact Hid
      unfold gPts; iexact Hg
    · unfold ow; iexists W; iexact HO
  unfold bodyOut ow
  iintro ⟨⟨Hres, Hin, Hshop, Hst, Hbar⟩, ⟨%W', HO⟩⟩
  rw [wp_ret]; imodintro
  ihave Hv := (gather m c) $$ Hres
  ihave Hsh := (shop_eq m c).1 $$ Hshop
  icases Hsh with ⟨Hscr, Hid, Hg⟩
  unfold bodyPost Φ₁ Dat.owesAt Pipeline.owesWithin
  rw [show (dats m 0 c).owed (t0_0 : Fin cfg0.N).succ = 0 from rfl]
  isplitl [Hin Hoth Hv Hbar Hst Hid Hscr]
  · isplitl [Hin Hoth Hv Hbar]
    · isplitl [Hin Hoth]
      · iapply (arrays_rows m c).2; isplitl [Hin] <;> iassumption
      isplitl [Hv] <;> iassumption
    isplitr [Hscr]
    · isplitl [Hst] <;> iassumption
    · iexact Hscr
  isplitl [HO]
  · iexists W'
    isplitr; · ipureintro; exact fun _ _ => Or.inl trivial
    iexact HO
  iexists _; isplitr; · (ipureintro; rfl)
  unfold gPts; iexact Hg

/-- The pipeline's one call runs the printed body, from `Φ₀` to `Φ₁`. -/
theorem prog_at : defs₀ (F := F) Proc.tc (0 : Fin 1) (t0_0, cfg0.slots t0_0) = bodyAt0 (F := F) t0_0 := rfl
theorem phi_before (c : Dev nD) : (dats m 0 c).Φ (t0_0 : Fin cfg0.N).castSucc = Φ₀ m c := rfl
theorem phi_after (c : Dev nD) : (dats m 0 c).Φ (t0_0 : Fin cfg0.N).succ = Φ₁ m c := rfl

/-- The same in the pipeline's form. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [phi_before, phi_after]
  have h := sound_body m c
  rw [← prog_at] at h
  unfold bodyPre bodyPost at h
  refine BIBase.Entails.trans (Entails.refl _) (BIBase.Entails.trans h (Entails.of_eq ?_))
  congr 1

end Cert.KernelIdealRun

end
-- ==== Proof.LaunchIdeal.lean ====
module

public import proofs.«01_k».proof.Proof.ObligationIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ
variable (m : (ℓ : Loc nD τ sig) → Buf (Elt F) ℓ) (ρ : Dev nD → PrngReg)

/-! ## Families over the semaphores -/

/-- A resource per remote semaphore, array by array. -/
def slots (A : Fin 66 → sProp 𝕄) : sProp 𝕄 :=
  iprop(each (fun k => A (at8 0 k)) all8 ∗ each (fun k => A (at8 1 k)) all8 ∗ each (fun k => A (at8 2 k)) all8 ∗ each (fun k => A (at8 3 k)) all8
    ∗ each (fun k => A (at8 4 k)) all8 ∗ each (fun k => A (at8 5 k)) all8 ∗ each (fun k => A (at8 6 k)) all8 ∗ each (fun k => A (at8 7 k)) all8
    ∗ A jCs ∗ A jCr)

def at8Emb : Fin 8 × Fin 8 ↪ Fin 66 := ⟨fun fk => at8 fk.1 fk.2, by decide⟩

theorem slots_eq (A : Fin 66 → sProp 𝕄) : bigSep Finset.univ A ⊣⊢ slots A := by
  have hA : bigSep Finset.univ A = iprop((bigSep Finset.univ fun fk : Fin 8 × Fin 8 => A (at8 fk.1 fk.2)) ∗ A jCs ∗ A jCr) := by
    have hu : (Finset.univ : Finset (Fin 66)) = Finset.univ.map at8Emb ∪ {jCs, jCr} := by decide
    rw [hu, BI.bigSep_union (by decide), bigSep_map, bigSep_insert (by decide), bigSep_singleton]
    rfl
  rw [hA, bigSep_univ_prod, each_all]
  simp only [each_all]
  unfold slots
  simp only [each_cons (fun f => each _ _), each_nil]
  constructor
  · iintro ⟨⟨H0, H1, H2, H3, H4, H5, H6, H7, -⟩, HS, HR⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS] <;> iassumption
  · iintro ⟨H0, H1, H2, H3, H4, H5, H6, H7, HS, HR⟩
    isplitr [HS HR]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iempintro
    · isplitl [HS] <;> iassumption

/-- The barrier's and the remote semaphores'. -/
theorem bigSep_slot (A : Slot → sProp 𝕄) : bigSep Finset.univ A = iprop(A none ∗ bigSep Finset.univ fun j : Fin 66 => A (some j)) := by
  have hu : (Finset.univ : Finset Slot) = insert none (Finset.univ.map Function.Embedding.some) := by decide
  rw [hu, bigSep_insert (by decide), bigSep_map]; rfl

/-! ## The semaphores at launch -/

/-- The kernel's own semaphores: the remote ones and the four of its own copies. -/
def osem : Fin 66 ⊕ Fin 4 → SemLoc sig
  | .inl j => .dma (sm j)
  | .inr i => .dma (cs i)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    ⊣⊢ iprop((bigSep Finset.univ fun j : Fin 66 => still c j) ∗ idles c) := by
  unfold Pipeline.ownSems0 idles
  rw [bigSep_univ_sum, bigSep_univ_eq_bigSepL (I := Fin 4) [0, 1, 2, 3] (by decide) (by decide)]
  exact ⟨Entails.refl _, Entails.refl _⟩
theorem unscopedSems0_eq (c : Dev nD) : (unscopedSems0 c : sProp 𝕄) = semVal (barCell c) 0 := by
  unfold unscopedSems0; rw [bigSep_eq_bigSepL_of_eq [SemLoc.reg barS] (by decide) (by decide)]; rfl

end Cert.KernelIdealRun

end
-- ==== Proof.GhostIdeal.lean ====
module

public import proofs.«01_k».proof.Proof.LaunchIdeal

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ
variable (m : (ℓ : Loc nD τ sig) → Buf (Elt F) ℓ) (ρ : Dev nD → PrngReg)

/-! ## The launch element -/

def ringCells : Finset (GSem nD τ sig) := Finset.univ.map ⟨kcell, kcell_injective⟩

/-- The duty tokens as minted, by device: the barrier's second, and the first of every semaphore of the protocol. -/
def tokOf (ct : Dev nD × Option Slot) : GSem nD τ sig × ℕ × Bool := match ct.2 with
  | none => (barCell ct.1, 0, true)
  | some s => (kcell (ct.1, s), 0, false)
theorem tokOf_injective : Function.Injective tokOf := by
  rintro ⟨c, t⟩ ⟨c', t'⟩ h
  rcases t with _ | s <;> rcases t' with _ | s'
  · have := kcell_injective (congrArg Prod.fst h); exact Prod.ext (Prod.mk.inj this).1 rfl
  · exact absurd (congrArg (fun x : GSem nD τ sig × ℕ × Bool => x.2.2) h) (fun h' => by cases h')
  · exact absurd (congrArg (fun x : GSem nD τ sig × ℕ × Bool => x.2.2) h) (fun h' => by cases h')
  · have := kcell_injective (congrArg Prod.fst h); exact Prod.ext (Prod.mk.inj this).1 (congrArg some (Prod.mk.inj this).2)
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The duty tokens of device `c`'s own cells. -/
def toks (c : Dev nD) : sProp 𝕄 :=
  iprop(dutyTok ER (barCell c) 0 true ∗ dutyTok ER (barCell c) 0 false ∗ bigSep Finset.univ fun j : Fin 66 => token c j)

/-- What the launch element deals device `c`. -/
def G (c : Dev nD) : sProp 𝕄 :=
  iprop((bigSep Finset.univ fun s : Slot => roundState ER (Rd m) (kcell (c, s)) 0)
    ∗ (bigSep Finset.univ fun s : Slot => iprop(atPos ER (kcell (c, s)) 0 ∅ 0 ∗ reached ER (kcell (c, s)) 0)) ∗ toks c)

theorem toks_eq : bigSep ringToks (fun x => (dutyTok ER x.1 x.2.1 x.2.2 : sProp 𝕄)) = bigSep Finset.univ fun c : Dev nD => toks c := by
  have hu : (Finset.univ : Finset (Option Slot)) = insert none (Finset.univ.map Function.Embedding.some) := by decide
  unfold ringToks; rw [bigSep_map, bigSep_univ_prod]
  refine bigSep_congr fun c _ => ?_
  unfold toks
  rw [hu, bigSep_insert (by decide), bigSep_map, bigSep_slot]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun s : Slot => Φ (kcell (c, s)) := by
    unfold ringCells; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun s : Slot => semVal (kcell (c, s)) 0) ∗ idles (F := F) c) := by
  rw [unscopedSems0_eq, bigSep_slot]
  iintro ⟨HO, HB⟩
  ihave HO := (ownSems0_eq c).1 $$ HO
  icases HO with ⟨HS, HI⟩
  isplitr [HI]
  · isplitl [HB]; · iexact HB
    unfold still; iexact HS
  · iexact HI

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (Rd m) κ (kcell (c, s))))
          ∗ (bigSep Finset.univ fun s => iprop(atPos ER (kcell (c, s)) 0 ∅ 0 ∗ reached ER (kcell (c, s)) 0)) ∗ toks c ∗ idles c) := by
  unfold G
  iintro ⟨Hos, Hus, Hst, Hat, Htok⟩
  ihave Hv := (sems0_eq (F := F) c) $$ [Hos Hus]
  · isplitl [Hos] <;> iassumption
  icases Hv with ⟨Hv, Hid⟩
  imod (show iprop((bigSep Finset.univ fun s : Slot => semVal (kcell (c, s)) 0) ∗ bigSep Finset.univ fun s : Slot => roundState ER (Rd m) (kcell (c, s)) 0)
      ⊢ (|={Set.univ}=> bigSep Finset.univ fun s => iprop(∃ κ : ℕ, cellInv ER (Rd m) κ (kcell (c, s))) : sProp 𝕄) from by
        rw [← bigSep_sep']
        exact (bigSep_mono fun s _ => (Rounds.body_intro ER (Rd m) (kcell (c, s))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt to the devices that pay -/

/-- Whose semaphore `j` device `c` completes. -/
def payee (c : Dev nD) (j : Fin 66) : Dev nD :=
  if j.val / 8 = 1 ∨ j.val / 8 = 3 ∨ j = jCr then yn c else if j.val / 8 = 5 ∨ j.val / 8 = 7 then xn c else c
theorem payee_payee (j : Fin 66) (c : Dev nD) : payee (payee c j) j = c := by
  unfold payee; split
  · exact yn_yn c
  · split
    · exact xn_xn c
    · rfl
def payeeEquiv (j : Fin 66) : Dev nD ≃ Dev nD := ⟨fun c => payee c j, fun c => payee c j, payee_payee j, payee_payee j⟩
theorem payee_at8 (c : Dev nD) (k : Fin 8) : payee c (at8 0 k) = c ∧ payee c (at8 1 k) = yn c ∧ payee c (at8 2 k) = c ∧ payee c (at8 3 k) = yn c
    ∧ payee c (at8 4 k) = c ∧ payee c (at8 5 k) = xn c ∧ payee c (at8 6 k) = c ∧ payee c (at8 7 k) = xn c := by revert c k; decide
theorem payee_last (c : Dev nD) : payee c jCs = c ∧ payee c jCr = yn c := by revert c; decide

theorem rights_intro (c : Dev nD) : (bigSep Finset.univ fun j : Fin 66 => (token (payee c j) j : sProp 𝕄)) ⊢ rights c := by
  refine (slots_eq _).1.trans ?_
  unfold slots rights
  simp only [(payee_at8 c _).1, (payee_at8 c _).2.1, (payee_at8 c _).2.2.1, (payee_at8 c _).2.2.2.1, (payee_at8 c _).2.2.2.2.1, (payee_at8 c _).2.2.2.2.2.1,
    (payee_at8 c _).2.2.2.2.2.2.1, (payee_at8 c _).2.2.2.2.2.2.2, (payee_last c).1, (payee_last c).2]
  iintro ⟨H0, H1, H2, H3, H4, H5, H6, H7, HS, HR⟩
  ihave H6 := (each_last _).1 $$ H6
  icases H6 with ⟨H6, -⟩
  ihave H7 := (each_last _).1 $$ H7
  icases H7 with ⟨H7, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS] <;> iassumption

/-- The tokens of the duties device `c` pays. -/
def payToks (c : Dev nD) : sProp 𝕄 :=
  iprop(dutyTok ER (barCell (xn c)) 0 true ∗ dutyTok ER (barCell (yn c)) 0 false ∗ bigSep Finset.univ fun j : Fin 66 => token (payee c j) j)

theorem swap_sums (Φ : Dev nD → Fin 66 → sProp 𝕄) :
    (bigSep Finset.univ fun c => bigSep Finset.univ fun j => Φ c j) = bigSep Finset.univ fun j => bigSep Finset.univ fun c => Φ c j := by
  rw [← bigSep_univ_prod (fun x : Dev nD × Fin 66 => Φ x.1 x.2), ← bigSep_univ_prod (fun x : Fin 66 × Dev nD => Φ x.2 x.1)]
  exact bigSep_univ_equiv (Equiv.prodComm (Fin 66) (Dev nD)) (fun x : Dev nD × Fin 66 => Φ x.1 x.2)

theorem toks_across : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv flipX (fun c : Dev nD => (dutyTok ER (barCell c) 0 true : sProp 𝕄)),
    bigSep_univ_equiv flipY (fun c : Dev nD => (dutyTok ER (barCell c) 0 false : sProp 𝕄)),
    swap_sums (fun c j => (token c j : sProp 𝕄)),
    swap_sums (fun c j => (token (payee c j) j : sProp 𝕄)),
    bigSep_congr (s := Finset.univ) fun (j : Fin 66) _ => bigSep_univ_equiv (payeeEquiv j) (fun c : Dev nD => (token c j : sProp 𝕄))]
  exact Entails.refl _

/-- What stays with device `c`. -/
def linear (c : Dev nD) : sProp 𝕄 :=
  iprop((bigSep Finset.univ fun s : Slot => atPos ER (kcell (c, s)) 0 ∅ 0) ∗ payToks c ∗ idles c)

theorem ghost_intro (K : Dev nD × Slot → ℕ) (c : Dev nD) : iprop(records m K ∗ linear c) ⊢ ghost m c := by
  unfold linear payToks ghost
  rw [bigSep_slot]
  iintro ⟨#HR, ⟨HaB, Ha⟩, ⟨Htx, Hty, Ht⟩, Hid⟩
  iexists K
  isplitr; · iexact HR
  isplitl [HaB Htx Hty]
  · isplitl [HaB]; · iexact HaB
    isplitl [Hty] <;> iassumption
  isplitl [Ha]
  · iapply (show (bigSep Finset.univ fun j : Fin 66 => (atPos ER (dcell c j) 0 ∅ 0 : sProp 𝕄)) ⊢ places c from (slots_eq (pos c)).1); iexact Ha
  isplitl [Ht]
  · iapply (rights_intro c); iexact Ht
  iexact Hid

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s => iprop(∃ κ : ℕ, cellInv ER (Rd m) κ (kcell (c, s))))
          ∗ (bigSep Finset.univ fun s => iprop(atPos ER (kcell (c, s)) 0 ∅ 0 ∗ reached ER (kcell (c, s)) 0)) ∗ toks c ∗ idles c) : sProp 𝕄)
      ⊢ bigSep Finset.univ (ghost m) := by
  rw [bigSep_sep', bigSep_sep', bigSep_sep', ← bigSep_univ_prod (fun ck : Dev nD × Slot => iprop(∃ κ : ℕ, cellInv ER (Rd m) κ (kcell ck))),
    bigSep_congr (s := Finset.univ) (fun (c : Dev nD) _ => bigSep_sep' Finset.univ (fun s : Slot => (atPos ER (kcell (c, s)) 0 ∅ 0 : sProp 𝕄)) (fun s => reached ER (kcell (c, s)) 0)),
    bigSep_sep', ← bigSep_univ_prod (fun ck : Dev nD × Slot => (reached ER (kcell ck) 0 : sProp 𝕄))]
  iintro ⟨HI, ⟨Hat, #HR⟩, Htok, Hid⟩
  ihave HK := (BI.bigSep_exists_pi Finset.univ (fun (ck : Dev nD × Slot) (κ : ℕ) => (cellInv ER (Rd m) κ (kcell ck) : sProp 𝕄))) $$ HI
  icases HK with ⟨%K, #HI⟩
  ihave Htk := (toks_across (F := F)) $$ Htok
  iapply (bigSep_with_persistent (R := records m K) fun c _ => ghost_intro m K c)
  isplitr
  · unfold records; isplitl; · iexact HI
    iexact HR
  · unfold linear
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- The semaphores device `d` will complete elsewhere, in a list. -/
def debtL (f : Fin 8 → List (Dev nD × Fin 66)) (R : List (Dev nD × Fin 66)) : List (Fin 8) → List (Dev nD × Fin 66)
  | [] => R
  | k :: l => debtL f R l ++ f k
def owedL (d : Dev nD) : List (Dev nD × Fin 66) :=
  debtL (fun k => [(yn d, at8 1 k)]) (debtL (fun k => [(xn d, at8 5 k), (yn d, at8 3 k)]) (debtL (fun k => [(xn d, at8 7 k)]) [(yn d, jCr)] first7) all8) all8

theorem due_at (e c : Dev nD) (j j' : Fin 66) : due e j' (dcell c j) () = N * [(e, j')].count (c, j) := by
  unfold due; rw [tallyAt_apply, List.count_singleton]
  by_cases h : (e, j') = (c, j)
  · obtain ⟨rfl, rfl⟩ := Prod.mk.inj h; simp
  · rw [if_neg (fun h' => h (by have := kcell_injective h'.1; obtain ⟨h1, h2⟩ := Prod.mk.inj this; rw [h1, Option.some.inj h2])), if_neg (by simpa using h), Nat.mul_zero]
theorem debt_at (c : Dev nD) (j : Fin 66) {f : Fin 8 → CellTallies nD τ sig Unit} {R : CellTallies nD τ sig Unit}
    {f' : Fin 8 → List (Dev nD × Fin 66)} {R' : List (Dev nD × Fin 66)}
    (hf : ∀ k, f k (dcell c j) () = N * (f' k).count (c, j)) (hR : R (dcell c j) () = N * R'.count (c, j)) :
    ∀ l, debt f R l (dcell c j) () = N * (debtL f' R' l).count (c, j)
  | [] => hR
  | k :: l => by
    show (debt f R l + f k) (dcell c j) () = N * (debtL f' R' l ++ f' k).count (c, j)
    rw [Pi.add_apply, Finsupp.add_apply, debt_at c j hf hR l, hf k, List.count_append, Nat.mul_add]
theorem bar_ne (e c : Dev nD) (j : Fin 66) : dcell c j ≠ barCell e := fun h => by
  have := kcell_injective h; exact absurd (Prod.mk.inj this).2 (by simp)
theorem owed_at (d c : Dev nD) (j : Fin 66) : O₀ d (dcell c j) () = N * (owedL d).count (c, j) := by
  unfold O₀ O₁ OP OA OF OC owedL
  rw [Pi.add_apply, Finsupp.add_apply, Pi.add_apply, Finsupp.add_apply, tallyAt_ne_cell (bar_ne _ _ _), tallyAt_ne_cell (bar_ne _ _ _),
    Finsupp.zero_apply, Nat.add_zero, Nat.add_zero]
  refine debt_at c j (fun k => due_at _ _ _ _) (debt_at c j (fun k => ?_) (debt_at c j (fun k => due_at _ _ _ _) (due_at _ _ _ _) _) _) _
  rw [Pi.add_apply, Finsupp.add_apply, due_at, due_at, ← Nat.mul_add, ← List.count_append]; rfl

/-- The semaphores that something arrives on. -/
def arrives (j : Fin 66) : Bool := (j.val / 8 = 1 || j.val / 8 = 3 || j.val / 8 = 5 || j.val / 8 = 7 || j = jCr) && j ≠ at8 7 7
theorem owed_once (c : Dev nD) (j : Fin 66) (h : arrives j = true) : ∑ d : Dev nD, (owedL d).count (c, j) = 1 := by
  revert c j; decide +kernel

theorem launch_dma (c : Dev nD) (j : Fin 66) (h : arrives j = true) :
    tallyOn (dcell c j) (launchCredit (Pipeline.owing O₀) 0 (dcell c j)) = (tallyAt (dcell c j) () N : CellTallies nD τ sig Unit) := by
  unfold tallyAt; refine congrArg _ (Finsupp.ext fun u => ?_); cases u
  rw [Pipeline.launchCredit_owing, Finsupp.single_eq_same, Finset.sum_congr rfl fun d _ => owed_at d c j, ← Finset.mul_sum, owed_once c j h, Nat.mul_one]

theorem due_bar (e c : Dev nD) (j : Fin 66) : due e j (barCell c) () = 0 := by
  unfold due; rw [tallyAt_ne_cell (fun h => bar_ne c e j h.symm)]; rfl
theorem debt_bar (c : Dev nD) {f : Fin 8 → CellTallies nD τ sig Unit} {R : CellTallies nD τ sig Unit}
    (hf : ∀ k, f k (barCell c) () = 0) (hR : R (barCell c) () = 0) : ∀ l, debt f R l (barCell c) () = 0
  | [] => hR
  | k :: l => by
    show (debt f R l + f k) (barCell c) () = 0
    rw [Pi.add_apply, Finsupp.add_apply, debt_bar c hf hR l, hf k]
theorem tally_bar (e c : Dev nD) : tallyAt (barCell e) () 1 (barCell c) () = if e = c then 1 else 0 := by
  rw [tallyAt_apply]
  by_cases h : e = c
  · subst h; simp
  · rw [if_neg h, if_neg (fun h' => h (by have := kcell_injective h'.1; exact (Prod.mk.inj this).1.symm))]
theorem owed_bar (d c : Dev nD) : O₀ d (barCell c) () = (if xn d = c then 1 else 0) + (if yn d = c then 1 else 0) := by
  unfold O₀ O₁ OP OA OF OC
  rw [Pi.add_apply, Finsupp.add_apply, Pi.add_apply, Finsupp.add_apply, tally_bar, tally_bar,
    debt_bar c (fun k => due_bar _ _ _) (debt_bar c (fun k => by rw [Pi.add_apply, Finsupp.add_apply, due_bar, due_bar])
      (debt_bar c (fun k => due_bar _ _ _) (due_bar _ _ _) _) _) _, Nat.zero_add]
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

def csemEmb : Slot ↪ SemLoc sig := ⟨csem, fun s s' h => by have := congrArg slotOf h; rw [slotOf_csem, slotOf_csem] at this; exact Option.some.inj this⟩

/-- Semaphore `j`'s share of the launch credit. -/
def credOf (c : Dev nD) (j : Fin 66) : sProp 𝕄 := cred (tallyOn (dcell c j) (launchCredit (Pipeline.owing O₀) 0 (dcell c j)))
theorem credOf_eq (c : Dev nD) (j : Fin 66) (h : arrives j = true) : credOf (F := F) c j = sent c j := by
  unfold credOf sent; rw [launch_dma c j h]

theorem each_eq_of {A B : Fin 8 → sProp 𝕄} : ∀ l : List (Fin 8), (∀ k ∈ l, A k = B k) → each A l = each B l
  | [], _ => rfl
  | k :: l, h => by rw [each_cons, each_cons, h k List.mem_cons_self, each_eq_of l fun i hi => h i (List.mem_cons_of_mem _ hi)]

theorem credits_intro (c : Dev nD) : slots (credOf (F := F) c) ⊢ credits c := by
  unfold slots credits
  rw [each_eq_of (A := fun k => credOf c (at8 1 k)) all8 (fun k _ => credOf_eq c (at8 1 k) (by revert k; decide)),
    each_eq_of (A := fun k => credOf c (at8 3 k)) all8 (fun k _ => credOf_eq c (at8 3 k) (by revert k; decide)),
    each_eq_of (A := fun k => credOf c (at8 5 k)) all8 (fun k _ => credOf_eq c (at8 5 k) (by revert k; decide)),
    credOf_eq c jCr (by decide)]
  iintro ⟨-, H1, -, H3, -, H5, -, H7, -, HR⟩
  ihave H7 := (each_last _).1 $$ H7
  icases H7 with ⟨H7, -⟩
  isplitl [H1]; · iexact H1
  isplitl [H3]; · iexact H3
  isplitl [H5]; · iexact H5
  isplitl [H7]
  · iapply (Entails.of_eq (each_eq_of (A := fun k => credOf (F := F) c (at8 7 k)) first7 (fun k hk => credOf_eq c (at8 7 k) (by revert k; decide)))); iexact H7
  iexact HR

/-- Each device gets, from what the others owe, the two units of its barrier and a block's units on every semaphore that something arrives on. -/
theorem creds (c : Dev nD) : (Pipeline.launchCred O₀ c : sProp 𝕄) ⊢ iprop(cred (tallyAt (barCell c) () 2) ∗ credits c) := by
  unfold Pipeline.launchCred
  refine (bigSep_subset (Finset.subset_univ (Finset.univ.map csemEmb))).trans ?_
  rw [bigSep_map, bigSep_slot]
  exact BI.sep_mono (Entails.of_eq (congrArg cred (launch_bar c))) ((slots_eq (credOf c)).1.trans (credits_intro c))

end Cert.KernelIdealRun

end
-- ==== Proof.RunIdeal.lean ====
module

public import proofs.«01_k».proof.Proof.GhostIdeal
public import Idealize.ShloMosaic.Lib.Pipeline.CollectiveSegs

@[expose] public section

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ
variable (m : (ℓ : Loc nD τ sig) → Buf (Elt F) ℓ) (ρ : Dev nD → PrngReg)

/-! ## The side conditions of the launch -/

theorem share_eq (c : Dev nD) (w : Fin cfg0.W) : (dats m 0 c).share w = fullShare := by unfold Dat.share; split <;> rfl

theorem level_stage (c : Dev nD) : lv ((c : Thread nD τ), .dma (⟨0, by decide⟩ : DmaSem sig)) () ≤ 0 := by
  unfold lv; rw [slotOf_stage]; exact le_rfl

theorem waits (c : Dev nD) : (levAts L lv : sProp 𝕄) ⊢ Pipeline.cellsWaits cfgs (dats m) () 0 c :=
  Pipeline.cellsWaits_intro cfgs (dats m) () 0 c fun w s t => by
    have hs : ((cfgs 0).win w).sem s = (⟨0, by decide⟩ : DmaSem sig) := by revert w s; decide
    rw [hs]
    refine mayWait c _ 0 _ (level_stage c) ?_
    rcases t with ⟨_ | _, ht⟩
    · exact above_O₀ c
    · exact above_zero 0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨⟨Ha, Hb, Hv⟩, Hlev, Hcr, -, HG⟩
  ihave Hc := (creds (F := F) c) $$ Hcr
  imodintro
  unfold start arrays
  isplitl
  · isplitl [HG]; · iexact HG
    isplitl [Hlev]; · iexact Hlev
    isplitl [Hc]; · iexact Hc
    isplitl [Ha Hb]
    · isplitl [Ha]; · iexact Ha
      iexact Hb
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What device `c` holds of its unscoped arrays and semaphores at the end. -/
def atEnd (c : Dev nD) : sProp 𝕄 := iprop(arrays m c ∗ (((c : Thread nD τ).loc main_v1) ↦{fullShare} doneV m) ∗ unscopedSems0 c)

theorem phi1_exit (c : Dev nD) :
    (dats m 0 c).Φ (Fin.last cfg0.N) ⊢ iprop(atEnd m c ∗ Pipeline.ownSems0 osem c ∗ Pipeline.scopedRest cfg0.spec c) := by
  rw [show (dats m 0 c).Φ (Fin.last cfg0.N) = Φ₁ m c from rfl, scopedRest0_eq]
  unfold Φ₁ atEnd scratch
  rw [unscopedSems0_eq]
  iintro ⟨Hr, ⟨Hst, Hid⟩, Hscr⟩
  isplitl [Hr]; · iexact Hr
  isplitl [Hst Hid]
  · iapply (ownSems0_eq c).2
    isplitl [Hst]
    · iapply (slots_eq (still c)).2; unfold slots; unfold stills; iexact Hst
    · iexact Hid
  iexact Hscr

/-- The memory at the end: the two inputs that the body reads itself, and the result. -/
def EndAt (c : Dev nD) (s : MemSt nD τ sig (Elt F)) : Prop :=
  (s.mem ((c : Thread nD τ).loc main_arg0) = partV m c ∧ s.mem ((c : Thread nD τ).loc main_arg1) = resV m c
    ∧ s.mem ((c : Thread nD τ).loc main_v1) = doneV m)
  ∧ ∀ sm : SemLoc sig, sm.isScoped .tc = false → s.sem ((c.tc : Thread nD τ), sm) = 0

theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  iintro ⟨H, HSI⟩
  ihave HZ := (pointsTo_read_all {()} (fun _ : Unit => ℓ) (fun _ => f) s') $$ [H HSI]
  · isplitl [H]
    · rw [bigSep_singleton]; iexact H
    · iexact HSI
  icases HZ with ⟨%h, HSI⟩
  isplitr
  · ipureintro; exact h () (Finset.mem_singleton_self _)
  · iexact HSI

theorem read_end (c : Dev nD) (s' : Phys nD τ sig (Elt F)) :
    iprop(atEnd m c ∗ emp ∗ SI s') ⊢ |={Set.univ}=> iprop(⌜EndAt m c s'.mem⌝ ∗ SI s') := by
  unfold atEnd arrays
  iintro ⟨⟨⟨Ha, Hb⟩, Hv, Hu⟩, -, HSI⟩
  ihave H := (read_one _ _ s') $$ [Ha HSI]
  · isplitl [Ha] <;> iassumption
  icases H with ⟨%ha, HSI⟩
  ihave H := (read_one _ _ s') $$ [Hb HSI]
  · isplitl [Hb] <;> iassumption
  icases H with ⟨%hb, HSI⟩
  ihave H := (read_one _ _ s') $$ [Hv HSI]
  · isplitl [Hv] <;> iassumption
  icases H with ⟨%hv, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨⟨ha, hb, hv⟩, hu⟩
  · iexact HSI

/-! ## The run -/

/-- What every run ends with on device `c`: the normalised array as the result, and the inputs as they were. -/
def Ends (c : Dev nD) (s : MemSt nD τ sig (Elt F)) : Prop :=
  s.mem ((c : Thread nD τ).loc main_v1) = doneV m
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

set_option maxRecDepth 100000 in
/-- From any memory with the semaphores at zero, every weakly fair execution of the program on the four devices ends, with `doneV` as
    the result on every device, the inputs unchanged and every semaphore at zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      ihave HX := (own_pair_emb embR (initOf ringCells ringToks) 1) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := atEnd m) (Z := fun _ => iprop(emp))
    (hX := start_intro m ρ) (hin := phi0_intro m) (hout := phi1_exit m)
    (QY := EndAt m) (hY := read_end m)
    (hQ := fun s h hs => ⟨fun c => ⟨(h c).2.2.1.2.2, (h c).2.2.1.1, (h c).2.2.1.2.1,
      ((h c).1 (0 : Fin 1)).trans ((dats m 0 c).arrAt_in (0 : Fin 1) rfl _)⟩, sem_eq_zero hs fun c => (h c).2.2.2⟩)

end Cert.KernelIdealRun

end
-- ==== Proof.ValueIdeal.lean ====
/-
What the kernel and the reference compute, row by row over the reals, and that they are the same.
-/
module

public import proofs.«01_k».proof.Proof.GeometryIdeal
public import proofs.«01_k».proof.Proof.Gen.ReferenceIdeal.Run
public import Idealize.ShloMosaic.Lib.Pointwise
public import Idealize.ShloMosaic.Lib.Layout
public import Idealize.ShloMosaic.Lib.Placement

@[expose] public section

noncomputable section

namespace Cert.RowValue

open Idealize.ShloMosaic Idealize.ShloMosaic.TcCoe Idealize.SL.Sem

/-- Element `l` of the row `y` over the root of its mean square, times `g`. -/
def scaled (y : Fin 4096 → EReal) (g : EReal) (l : Fin 4096) : EReal :=
  Ideal.div (y l) (Ideal.sqrt (Ideal.div (∑ k : Fin 4096, y k * y k) (Ideal.ofBits .f32 0x45800000#32) + Ideal.ofBits .f32 0x358637BD#32)) * g

section Kernel
open Cert.KernelIdeal Cert.KernelIdeal.Gen

/-- What one finished block holds, from the two partial sums, the residual and the scale. -/
theorem block_value (a b r : Vec Ideal S128x4096 .f32) (g : Vec Ideal S4096 .f32) (j : S128x4096.Idx) :
    k0_pay1 (F := Ideal) a b r g j = scaled (fun l => a (ix2 (j 0) l) + b (ix2 (j 0) l) + r (ix2 (j 0) l)) (g (ix1 (j 1))) (j 1) := by
  pointwise [k0_pay1, scaled]

end Kernel

section Reference
open Cert.ReferenceIdeal Cert.ReferenceIdeal.Gen

/-- The reference's sum over the leading axis plus the residual. -/
def summed (p : S2x4096x4096.Idx → Ideal .f32) (r : S4096x4096.Idx → Ideal .f32) : FVec Ideal S4096x4096 .f32 :=
  addf (Host.reduceAdd p (constant S_ .f32 0x00000000#32) reducesTo_S2x4096x4096_S4096x4096_d0 h_S_) r
/-- The reference's result, of the whole arrays. -/
def refOut (p : S2x4096x4096.Idx → Ideal .f32) (r : S4096x4096.Idx → Ideal .f32) (g : S4096.Idx → Ideal .f32) : FVec Ideal S4096x4096 .f32 :=
  mulf (Host.divf (summed p r) (broadcastInDim S4096x4096 ![0, 1] bcast_S4096x1_S4096x4096_0_1 (Host.sqrt (addf (Host.divf
      (broadcastInDim S4096x1 ![0] bcast_S4096_S4096x1_0 (Host.reduceAdd (mulf (summed p r) (summed p r)) (constant S_ .f32 0x00000000#32) reducesTo_S4096x4096_S4096_d1 h_S_))
      (broadcastInDim S4096x1 ![] bcast_S_S4096x1 (constant S_ .f32 0x45800000#32))) (broadcastInDim S4096x1 ![] bcast_S_S4096x1 (constant S_ .f32 0x358637BD#32))))))
    (broadcastInDim S4096x4096 ![0, 1] bcast_S1x4096_S4096x4096_0_1 (broadcastInDim S1x4096 ![1] bcast_S4096_S1x4096_1 g))

theorem summed_value (p : S2x4096x4096.Idx → Ideal .f32) (r : S4096x4096.Idx → Ideal .f32) (i : S4096x4096.Idx) :
    summed p r i = p (ix3 0 (i 0) (i 1)) + p (ix3 1 (i 0) (i 1)) + r i := by
  pointwise [summed]
  rw [Fin.sum_univ_two]
theorem ref_value (p : S2x4096x4096.Idx → Ideal .f32) (r : S4096x4096.Idx → Ideal .f32) (g : S4096.Idx → Ideal .f32) (i : S4096x4096.Idx) :
    refOut p r g i = scaled (fun l => summed p r (ix2 (i 0) l)) (g (ix1 (i 1))) (i 1) := by
  pointwise [refOut, scaled]

end Reference

section Equation
open Cert.KernelIdeal Cert.KernelIdeal.Gen Cert.KernelIdealRun

variable (m : (ℓ : Loc nD τ sig) → Buf (Elt Ideal) ℓ)

/-- A block of the partial sums, of the residual, and the scale, read element by element from the arrays. -/
theorem part_read (c q : Dev nD) (k : Fin 8) (j : S128x4096.Idx) :
    partB m c q k j = partV m c (ix3 0 (place q k j 0) (place q k j 1)) := by
  have h := shapeCast_dropUnit_apply ![128, 4096]
    ((Memref.whole main_arg0).view.readAt (Elt Ideal) (Rect.unit (s := S1x4096x4096) (offP q k) S1x128x4096.size (fitsP q k)).toLoadRect (partV m c))
    (squeezes_S1x128x4096_S128x4096.numel_eq) j
  refine Eq.trans (b := _) (show partB m c q k j = _ from h) ?_
  refine congrArg (partV m c) (funext fun a => ?_)
  fin_cases a <;> rfl
theorem resid_read (q : Dev nD) (k : Fin 8) (j : S128x4096.Idx) :
    (residM q k).view.read (Elt Ideal) (resV m q) j = resV m q (place q k j) := rfl
theorem scale_read (q : Dev nD) : gamV m q = m ((q : Thread nD τ).loc main_arg2) :=
  Memref.read_access_unit_zero (Elt Ideal) main_arg2 (funext fun a => by fin_cases a; rfl) _ (m ((q : Thread nD τ).loc main_arg2))
/-- The element beside another in its row. -/
theorem place_beside (q : Dev nD) (k : Fin 8) (j : S128x4096.Idx) (l : Fin 4096) :
    place q k (ix2 (j 0) l) = ix2 (place q k j 0) l := by
  funext a; fin_cases a
  · exact Fin.ext ((place_row q k _).trans (place_row q k j).symm)
  · exact Fin.ext (place_col q k _)

/-- Which of the two halves of the partial sums device `c` holds. -/
abbrev half (c : Dev nD) := Layout.meshBlock [2, 2] ![[1], [], []] c (by decide)
theorem halves (q : Dev nD) : ((half q 0).val = 0 ∧ (half (yn q) 0).val = 1) ∨ ((half q 0).val = 1 ∧ (half (yn q) 0).val = 0) := by
  revert q; decide

/-- A device's block of the partial sums, in the whole array. -/
theorem part_whole (P0 : FVec Ideal ⟨3, ![2, 4096, 4096]⟩ .f32) (c : Dev nD) (b : Fin 2) (hb : (half c 0).val = b.val)
    (hP : m ((c : Thread nD τ).loc main_arg0) = Layout.blockN ⟨3, ![1, 4096, 4096]⟩ ⟨3, ![2, 4096, 4096]⟩ (half c) P0)
    (q : Dev nD) (k : Fin 8) (j : S128x4096.Idx) (l : Fin 4096) :
    partB m c q k (ix2 (j 0) l) = P0 (ix3 b (place q k j 0) l) := by
  rw [part_read, place_beside, partV, hP, Layout.blockN_apply]
  refine congrArg P0 (funext fun a => ?_)
  fin_cases a
  · exact Fin.ext (by rw [Layout.TilesN.idx_val]; show (half c 0).val * 1 + 0 = b.val; omega)
  · exact Fin.ext (by rw [Layout.TilesN.idx_val]; show 0 * 4096 + _ = _; exact (by omega : ∀ x : ℕ, 0 * 4096 + x = x) _)
  · exact Fin.ext (by rw [Layout.TilesN.idx_val]; show 0 * 4096 + _ = _; exact (by omega : ∀ x : ℕ, 0 * 4096 + x = x) _)

/-- On every device the kernel leaves its rows of the reference's result. -/
theorem value_eq (P0 : FVec Ideal ⟨3, ![2, 4096, 4096]⟩ .f32) (R0 : FVec Ideal ⟨2, ![4096, 4096]⟩ .f32) (G0 : FVec Ideal ⟨1, ![4096]⟩ .f32)
    (hP : ∀ c : Dev nD, m ((c : Thread nD τ).loc main_arg0) = Layout.blockN ⟨3, ![1, 4096, 4096]⟩ ⟨3, ![2, 4096, 4096]⟩ (half c) P0)
    (hR : ∀ c : Dev nD, m ((c : Thread nD τ).loc main_arg1) = R0) (hG : ∀ c : Dev nD, m ((c : Thread nD τ).loc main_arg2) = G0) :
    doneV m = refOut P0 R0 G0 := by
  funext i
  rw [show doneV m i = doneB m (qOf i) (kOf i) (jOf i) from rfl]
  have hi := place_of i
  revert hi
  generalize qOf i = q, kOf i = k, jOf i = j
  rintro rfl
  rw [ref_value, doneB, block_value]
  have hcol : (place q k j) 1 = j 1 := Fin.ext (place_col q k j)
  refine congr (congr (congrArg scaled (funext fun l => ?_)) ?_) hcol.symm
  · rw [summed_value, resid_read, place_beside, resV, hR]
    rcases halves q with ⟨h, h'⟩ | ⟨h, h'⟩
    · rw [part_whole m P0 q 0 h (hP q), part_whole m P0 (yn q) 1 h' (hP _)]; rfl
    · rw [part_whole m P0 q 1 h (hP q), part_whole m P0 (yn q) 0 h' (hP _), add_comm (P0 _)]; rfl
  · rw [scale_read, hG, hcol]

end Equation

end Cert.RowValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.ValueIdeal
public import Idealize.ShloMosaic.Adequacy
public import Idealize.ShloMosaic.Init

@[expose] public section

noncomputable section

namespace Cert.Proof

open Idealize.ShloMosaic Idealize.SL.Sem Cert.Kernel

/-- The kernel ends, with its arguments unchanged and every semaphore at zero: its run, with the result dropped. -/
theorem frame_kernel : Cert.quiescent_Kernel := fun m g _ =>
  (θ_run Cert.Kernel.defs _ _).mono (fun _ h => ⟨fun c => (h.1 c).2, h.2⟩) (Cert.KernelRun.run_main (F := Bits) m g)

/-- The same of the kernel read over the reals. -/
theorem frame_ideal : Cert.quiescent_KernelIdeal := fun m g _ =>
  (θ_run Cert.KernelIdeal.defs _ _).mono (fun _ h => ⟨fun c => (h.1 c).2, h.2⟩) (Cert.KernelIdealRun.run_main (F := Ideal) m g)

/-- The reference ends with its arguments unchanged; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the reals every device's result is the reference's. -/
theorem algebraic_claim : Cert.algebraic_KernelIdeal_ReferenceIdeal := fun m g m' g' _ h =>
  ⟨Cert.RowValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono
      (fun _ e c => ⟨(e.1 c).1.trans (Cert.RowValue.value_eq m _ _ _ (fun c => (h c).1) (fun c => (h c).2.1) (fun c => (h c).2.2)), (e.1 c).2⟩)
      (Cert.KernelIdealRun.run_main (F := Ideal) m g),
    (θ_run Cert.ReferenceIdeal.defs _ _).mono (fun _ e => e 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic_claim⟩

end Cert.Proof

end
